-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x2 : Shape := ⟨2, ![16384, 2]⟩
abbrev S16384x20x3 : Shape := ⟨3, ![16384, 20, 3]⟩
abbrev S16384x1x3 : Shape := ⟨3, ![16384, 1, 3]⟩
abbrev S12x88 : Shape := ⟨2, ![12, 88]⟩
abbrev S31x88 : Shape := ⟨2, ![31, 88]⟩
abbrev S20x88 : Shape := ⟨2, ![20, 88]⟩
abbrev S5896x200 : Shape := ⟨2, ![5896, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S_ : Shape := ⟨0, ![]⟩

class Facts : Prop where
  bcast_S_S16384x2 : S_.BroadcastsInDim S16384x2 (![] : Fin 0 → Fin S16384x2.rank)
  reducesTo_S16384x2_S_d0_1 : S16384x2.ReducesTo [0, 1] S_
  h_S_ : 0 < S_.numel
  bcast_S_S16384x20x3 : S_.BroadcastsInDim S16384x20x3 (![] : Fin 0 → Fin S16384x20x3.rank)
  reducesTo_S16384x20x3_S_d0_1_2 : S16384x20x3.ReducesTo [0, 1, 2] S_
  bcast_S_S16384x1x3 : S_.BroadcastsInDim S16384x1x3 (![] : Fin 0 → Fin S16384x1x3.rank)
  reducesTo_S16384x1x3_S_d0_1_2 : S16384x1x3.ReducesTo [0, 1, 2] S_
  bcast_S_S12x88 : S_.BroadcastsInDim S12x88 (![] : Fin 0 → Fin S12x88.rank)
  reducesTo_S12x88_S_d0_1 : S12x88.ReducesTo [0, 1] S_
  bcast_S_S31x88 : S_.BroadcastsInDim S31x88 (![] : Fin 0 → Fin S31x88.rank)
  reducesTo_S31x88_S_d0_1 : S31x88.ReducesTo [0, 1] S_
  bcast_S_S20x88 : S_.BroadcastsInDim S20x88 (![] : Fin 0 → Fin S20x88.rank)
  reducesTo_S20x88_S_d0_1 : S20x88.ReducesTo [0, 1] S_
  bcast_S_S5896x200 : S_.BroadcastsInDim S5896x200 (![] : Fin 0 → Fin S5896x200.rank)
  reducesTo_S5896x200_S_d0_1 : S5896x200.ReducesTo [0, 1] S_
  bcast_S_S200 : S_.BroadcastsInDim S200 (![] : Fin 0 → Fin S200.rank)
  reducesTo_S200_S_d0 : S200.ReducesTo [0] S_
  bcast_S_S200x80 : S_.BroadcastsInDim S200x80 (![] : Fin 0 → Fin S200x80.rank)
  reducesTo_S200x80_S_d0_1 : S200x80.ReducesTo [0, 1] S_
  bcast_S_S80 : S_.BroadcastsInDim S80 (![] : Fin 0 → Fin S80.rank)
  reducesTo_S80_S_d0 : S80.ReducesTo [0] S_
  bcast_S_S80x2 : S_.BroadcastsInDim S80x2 (![] : Fin 0 → Fin S80x2.rank)
  reducesTo_S80x2_S_d0_1 : S80x2.ReducesTo [0, 1] S_

variable [Facts]

def fn_part3 {F : FTy → Type} [FloatOps F] (main_arg9 : FVec F S200x80 .f32) (main_arg10 : FVec F S80 .f32) (main_arg11 : FVec F S80x2 .f32) (main_v46 : IVec S_ 1) (main_v49 : IVec S200 1) (main_c_19 : IVec S_ 1) : IVec S_ 1 :=
  let main_v50 : IVec S_ 1 := (fun x v => Host.reduce IntOp.andi x v reducesTo_S200_S_d0 h_S_) main_v49 main_c_19
  let main_v51 : IVec S_ 1 := andi main_v46 main_v50
  let main_v52 : FVec F S200x80 .f32 := Host.absf main_arg9
  let main_cst_20 : FVec F S_ .f32 := constant S_ .f32 0x7F800000#32
  let main_v53 : FVec F S200x80 .f32 := broadcastInDim S200x80 ![] bcast_S_S200x80 main_cst_20
  let main_v54 : IVec S200x80 1 := cmpf .olt main_v52 main_v53
  let main_c_21 : IVec S_ 1 := constantI S_ 1 1#1
  let main_v55 : IVec S_ 1 := (fun x v => Host.reduce IntOp.andi x v reducesTo_S200x80_S_d0_1 h_S_) main_v54 main_c_21
  let main_v56 : IVec S_ 1 := andi main_v51 main_v55
  let main_v57 : FVec F S80 .f32 := Host.absf main_arg10
  let main_cst_22 : FVec F S_ .f32 := constant S_ .f32 0x7F800000#32
  let main_v58 : FVec F S80 .f32 := broadcastInDim S80 ![] bcast_S_S80 main_cst_22
  let main_v59 : IVec S80 1 := cmpf .olt main_v57 main_v58
  let main_c_23 : IVec S_ 1 := constantI S_ 1 1#1
  let main_v60 : IVec S_ 1 := (fun x v => Host.reduce IntOp.andi x v reducesTo_S80_S_d0 h_S_) main_v59 main_c_23
  let main_v61 : IVec S_ 1 := andi main_v56 main_v60
  let main_v62 : FVec F S80x2 .f32 := Host.absf main_arg11
  let main_cst_24 : FVec F S_ .f32 := constant S_ .f32 0x7F800000#32
  let main_v63 : FVec F S80x2 .f32 := broadcastInDim S80x2 ![] bcast_S_S80x2 main_cst_24
  let main_v64 : IVec S80x2 1 := cmpf .olt main_v62 main_v63
  let main_c_25 : IVec S_ 1 := constantI S_ 1 1#1
  let main_v65 : IVec S_ 1 := (fun x v => Host.reduce IntOp.andi x v reducesTo_S80x2_S_d0_1 h_S_) main_v64 main_c_25
  let main_v66 : IVec S_ 1 := andi main_v61 main_v65
  main_v66

def fn_part2 {F : FTy → Type} [FloatOps F] (main_arg6 : FVec F S20x88 .f32) (main_arg7 : FVec F S5896x200 .f32) (main_arg8 : FVec F S200 .f32) (main_arg9 : FVec F S200x80 .f32) (main_arg10 : FVec F S80 .f32) (main_arg11 : FVec F S80x2 .f32) (main_v31 : IVec S_ 1) (main_v32 : FVec F S31x88 .f32) (main_cst_12 : FVec F S_ .f32) : IVec S_ 1 :=
  let main_v33 : FVec F S31x88 .f32 := broadcastInDim S31x88 ![] bcast_S_S31x88 main_cst_12
  let main_v34 : IVec S31x88 1 := cmpf .olt main_v32 main_v33
  let main_c_13 : IVec S_ 1 := constantI S_ 1 1#1
  let main_v35 : IVec S_ 1 := (fun x v => Host.reduce IntOp.andi x v reducesTo_S31x88_S_d0_1 h_S_) main_v34 main_c_13
  let main_v36 : IVec S_ 1 := andi main_v31 main_v35
  let main_v37 : FVec F S20x88 .f32 := Host.absf main_arg6
  let main_cst_14 : FVec F S_ .f32 := constant S_ .f32 0x7F800000#32
  let main_v38 : FVec F S20x88 .f32 := broadcastInDim S20x88 ![] bcast_S_S20x88 main_cst_14
  let main_v39 : IVec S20x88 1 := cmpf .olt main_v37 main_v38
  let main_c_15 : IVec S_ 1 := constantI S_ 1 1#1
  let main_v40 : IVec S_ 1 := (fun x v => Host.reduce IntOp.andi x v reducesTo_S20x88_S_d0_1 h_S_) main_v39 main_c_15
  let main_v41 : IVec S_ 1 := andi main_v36 main_v40
  let main_v42 : FVec F S5896x200 .f32 := Host.absf main_arg7
  let main_cst_16 : FVec F S_ .f32 := constant S_ .f32 0x7F800000#32
  let main_v43 : FVec F S5896x200 .f32 := broadcastInDim S5896x200 ![] bcast_S_S5896x200 main_cst_16
  let main_v44 : IVec S5896x200 1 := cmpf .olt main_v42 main_v43
  let main_c_17 : IVec S_ 1 := constantI S_ 1 1#1
  let main_v45 : IVec S_ 1 := (fun x v => Host.reduce IntOp.andi x v reducesTo_S5896x200_S_d0_1 h_S_) main_v44 main_c_17
  let main_v46 : IVec S_ 1 := andi main_v41 main_v45
  let main_v47 : FVec F S200 .f32 := Host.absf main_arg8
  let main_cst_18 : FVec F S_ .f32 := constant S_ .f32 0x7F800000#32
  let main_v48 : FVec F S200 .f32 := broadcastInDim S200 ![] bcast_S_S200 main_cst_18
  let main_v49 : IVec S200 1 := cmpf .olt main_v47 main_v48
  let main_c_19 : IVec S_ 1 := constantI S_ 1 1#1
  fn_part3 (F := F) main_arg9 main_arg10 main_arg11 main_v46 main_v49 main_c_19

def fn_part1 {F : FTy → Type} [FloatOps F] (main_arg2 : IVec S16384x1x3 32) (main_arg3 : IVec S16384x2 32) (main_arg4 : FVec F S12x88 .f32) (main_arg5 : FVec F S31x88 .f32) (main_arg6 : FVec F S20x88 .f32) (main_arg7 : FVec F S5896x200 .f32) (main_arg8 : FVec F S200 .f32) (main_arg9 : FVec F S200x80 .f32) (main_arg10 : FVec F S80 .f32) (main_arg11 : FVec F S80x2 .f32) (main_v12 : IVec S_ 1) (main_v14 : IVec S16384x1x3 1) (main_v15 : IVec S16384x1x3 32) : IVec S_ 1 :=
  let main_v16 : IVec S16384x1x3 1 := cmpi .slt main_arg2 main_v15
  let main_v17 : IVec S16384x1x3 1 := andi main_v14 main_v16
  let main_c_7 : IVec S_ 1 := constantI S_ 1 1#1
  let main_v18 : IVec S_ 1 := (fun x v => Host.reduce IntOp.andi x v reducesTo_S16384x1x3_S_d0_1_2 h_S_) main_v17 main_c_7
  let main_v19 : IVec S_ 1 := andi main_v12 main_v18
  let main_c_8 : IVec S_ 32 := constantI S_ 32 0#32
  let main_v20 : IVec S16384x2 32 := broadcastInDim S16384x2 ![] bcast_S_S16384x2 main_c_8
  let main_v21 : IVec S16384x2 1 := cmpi .sge main_arg3 main_v20
  let main_c_9 : IVec S_ 32 := constantI S_ 32 10#32
  let main_v22 : IVec S16384x2 32 := broadcastInDim S16384x2 ![] bcast_S_S16384x2 main_c_9
  let main_v23 : IVec S16384x2 1 := cmpi .slt main_arg3 main_v22
  let main_v24 : IVec S16384x2 1 := andi main_v21 main_v23
  let main_c_10 : IVec S_ 1 := constantI S_ 1 1#1
  let main_v25 : IVec S_ 1 := (fun x v => Host.reduce IntOp.andi x v reducesTo_S16384x2_S_d0_1 h_S_) main_v24 main_c_10
  let main_v26 : IVec S_ 1 := andi main_v19 main_v25
  let main_v27 : FVec F S12x88 .f32 := Host.absf main_arg4
  let main_cst : FVec F S_ .f32 := constant S_ .f32 0x7F800000#32
  let main_v28 : FVec F S12x88 .f32 := broadcastInDim S12x88 ![] bcast_S_S12x88 main_cst
  let main_v29 : IVec S12x88 1 := cmpf .olt main_v27 main_v28
  let main_c_11 : IVec S_ 1 := constantI S_ 1 1#1
  let main_v30 : IVec S_ 1 := (fun x v => Host.reduce IntOp.andi x v reducesTo_S12x88_S_d0_1 h_S_) main_v29 main_c_11
  let main_v31 : IVec S_ 1 := andi main_v26 main_v30
  let main_v32 : FVec F S31x88 .f32 := Host.absf main_arg5
  let main_cst_12 : FVec F S_ .f32 := constant S_ .f32 0x7F800000#32
  fn_part2 (F := F) main_arg6 main_arg7 main_arg8 main_arg9 main_arg10 main_arg11 main_v31 main_v32 main_cst_12

def fn {F : FTy → Type} [FloatOps F] (main_arg0 : IVec S16384x2 32) (main_arg1 : IVec S16384x20x3 32) (main_arg2 : IVec S16384x1x3 32) (main_arg3 : IVec S16384x2 32) (main_arg4 : FVec F S12x88 .f32) (main_arg5 : FVec F S31x88 .f32) (main_arg6 : FVec F S20x88 .f32) (main_arg7 : FVec F S5896x200 .f32) (main_arg8 : FVec F S200 .f32) (main_arg9 : FVec F S200x80 .f32) (main_arg10 : FVec F S80 .f32) (main_arg11 : FVec F S80x2 .f32) (main_arg12 : FVec F S2 .f32) : IVec S_ 1 :=
  let main_c : IVec S_ 32 := constantI S_ 32 0#32
  let main_v0 : IVec S16384x2 32 := broadcastInDim S16384x2 ![] bcast_S_S16384x2 main_c
  let main_v1 : IVec S16384x2 1 := cmpi .sge main_arg0 main_v0
  let main_c_0 : IVec S_ 32 := constantI S_ 32 2#32
  let main_v2 : IVec S16384x2 32 := broadcastInDim S16384x2 ![] bcast_S_S16384x2 main_c_0
  let main_v3 : IVec S16384x2 1 := cmpi .slt main_arg0 main_v2
  let main_v4 : IVec S16384x2 1 := andi main_v1 main_v3
  let main_c_1 : IVec S_ 1 := constantI S_ 1 1#1
  let main_v5 : IVec S_ 1 := (fun x v => Host.reduce IntOp.andi x v reducesTo_S16384x2_S_d0_1 h_S_) main_v4 main_c_1
  let main_c_2 : IVec S_ 32 := constantI S_ 32 0#32
  let main_v6 : IVec S16384x20x3 32 := broadcastInDim S16384x20x3 ![] bcast_S_S16384x20x3 main_c_2
  let main_v7 : IVec S16384x20x3 1 := cmpi .sge main_arg1 main_v6
  let main_c_3 : IVec S_ 32 := constantI S_ 32 3#32
  let main_v8 : IVec S16384x20x3 32 := broadcastInDim S16384x20x3 ![] bcast_S_S16384x20x3 main_c_3
  let main_v9 : IVec S16384x20x3 1 := cmpi .slt main_arg1 main_v8
  let main_v10 : IVec S16384x20x3 1 := andi main_v7 main_v9
  let main_c_4 : IVec S_ 1 := constantI S_ 1 1#1
  let main_v11 : IVec S_ 1 := (fun x v => Host.reduce IntOp.andi x v reducesTo_S16384x20x3_S_d0_1_2 h_S_) main_v10 main_c_4
  let main_v12 : IVec S_ 1 := andi main_v5 main_v11
  let main_c_5 : IVec S_ 32 := constantI S_ 32 0#32
  let main_v13 : IVec S16384x1x3 32 := broadcastInDim S16384x1x3 ![] bcast_S_S16384x1x3 main_c_5
  let main_v14 : IVec S16384x1x3 1 := cmpi .sge main_arg2 main_v13
  let main_c_6 : IVec S_ 32 := constantI S_ 32 3#32
  let main_v15 : IVec S16384x1x3 32 := broadcastInDim S16384x1x3 ![] bcast_S_S16384x1x3 main_c_6
  fn_part1 (F := F) main_arg2 main_arg3 main_arg4 main_arg5 main_arg6 main_arg7 main_arg8 main_arg9 main_arg10 main_arg11 main_v12 main_v14 main_v15
-- ==== Kernel.lean ====
abbrev S16384x2 : Shape := ⟨2, ![16384, 2]⟩
abbrev S16384x20x3 : Shape := ⟨3, ![16384, 20, 3]⟩
abbrev S16384x1x3 : Shape := ⟨3, ![16384, 1, 3]⟩
abbrev S12x88 : Shape := ⟨2, ![12, 88]⟩
abbrev S31x88 : Shape := ⟨2, ![31, 88]⟩
abbrev S20x88 : Shape := ⟨2, ![20, 88]⟩
abbrev S5896x200 : Shape := ⟨2, ![5896, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S2x20 : Shape := ⟨2, ![2, 20]⟩
abbrev S1x20 : Shape := ⟨2, ![1, 20]⟩
abbrev S16384x3x20 : Shape := ⟨3, ![16384, 3, 20]⟩
abbrev S16384x60 : Shape := ⟨2, ![16384, 60]⟩
abbrev S16384x3 : Shape := ⟨2, ![16384, 3]⟩
abbrev S16384x65 : Shape := ⟨2, ![16384, 65]⟩
abbrev S1x200 : Shape := ⟨2, ![1, 200]⟩
abbrev S1x80 : Shape := ⟨2, ![1, 80]⟩
abbrev S1x2 : Shape := ⟨2, ![1, 2]⟩
abbrev S4096x65 : Shape := ⟨2, ![4096, 65]⟩
abbrev S4096x2 : Shape := ⟨2, ![4096, 2]⟩
abbrev S65x200 : Shape := ⟨2, ![65, 200]⟩
abbrev S20x200 : Shape := ⟨2, ![20, 200]⟩
abbrev S2x88 : Shape := ⟨2, ![2, 88]⟩
abbrev S88x200 : Shape := ⟨2, ![88, 200]⟩
abbrev S2x200 : Shape := ⟨2, ![2, 200]⟩
abbrev S3x88 : Shape := ⟨2, ![3, 88]⟩
abbrev S3x200 : Shape := ⟨2, ![3, 200]⟩
abbrev S10x88 : Shape := ⟨2, ![10, 88]⟩
abbrev S10x200 : Shape := ⟨2, ![10, 200]⟩
abbrev S4096x20 : Shape := ⟨2, ![4096, 20]⟩
abbrev S4096x200 : Shape := ⟨2, ![4096, 200]⟩
abbrev S4096x80 : Shape := ⟨2, ![4096, 80]⟩

abbrev nBuf : Space → Nat
  | .hbm => 27
  | .vmem => 21
  | .smem => 0
  | _ => 0

abbrev bufTy : (tb : Table) → Fin (tcTables nBuf tb) → BufTy
  | .hbm, ⟨0, _⟩ => ⟨S16384x2, .i32⟩
  | .hbm, ⟨1, _⟩ => ⟨S16384x20x3, .i32⟩
  | .hbm, ⟨2, _⟩ => ⟨S16384x1x3, .i32⟩
  | .hbm, ⟨3, _⟩ => ⟨S16384x2, .i32⟩
  | .hbm, ⟨4, _⟩ => ⟨S12x88, .f32⟩
  | .hbm, ⟨5, _⟩ => ⟨S31x88, .f32⟩
  | .hbm, ⟨6, _⟩ => ⟨S20x88, .f32⟩
  | .hbm, ⟨7, _⟩ => ⟨S5896x200, .f32⟩
  | .hbm, ⟨8, _⟩ => ⟨S200, .f32⟩
  | .hbm, ⟨9, _⟩ => ⟨S200x80, .f32⟩
  | .hbm, ⟨10, _⟩ => ⟨S80, .f32⟩
  | .hbm, ⟨11, _⟩ => ⟨S80x2, .f32⟩
  | .hbm, ⟨12, _⟩ => ⟨S2, .f32⟩
  | .hbm, ⟨13, _⟩ => ⟨S2x20, .bf16⟩
  | .hbm, ⟨14, _⟩ => ⟨S1x20, .f32⟩
  | .hbm, ⟨15, _⟩ => ⟨S16384x2, .i8⟩
  | .hbm, ⟨16, _⟩ => ⟨S16384x20x3, .i8⟩
  | .hbm, ⟨17, _⟩ => ⟨S16384x3x20, .i8⟩
  | .hbm, ⟨18, _⟩ => ⟨S16384x60, .i8⟩
  | .hbm, ⟨19, _⟩ => ⟨S16384x1x3, .i8⟩
  | .hbm, ⟨20, _⟩ => ⟨S16384x3, .i8⟩
  | .hbm, ⟨21, _⟩ => ⟨S16384x65, .i8⟩
  | .hbm, ⟨22, _⟩ => ⟨S16384x2, .i8⟩
  | .hbm, ⟨23, _⟩ => ⟨S1x200, .f32⟩
  | .hbm, ⟨24, _⟩ => ⟨S1x80, .f32⟩
  | .hbm, ⟨25, _⟩ => ⟨S1x2, .f32⟩
  | .hbm, ⟨26, _⟩ => ⟨S16384x2, .f32⟩
  | .local _ .vmem, ⟨0, _⟩ => ⟨S4096x65, .i8⟩
  | .local _ .vmem, ⟨1, _⟩ => ⟨S4096x65, .i8⟩
  | .local _ .vmem, ⟨2, _⟩ => ⟨S4096x2, .i8⟩
  | .local _ .vmem, ⟨3, _⟩ => ⟨S4096x2, .i8⟩
  | .local _ .vmem, ⟨4, _⟩ => ⟨S12x88, .f32⟩
  | .local _ .vmem, ⟨5, _⟩ => ⟨S31x88, .f32⟩
  | .local _ .vmem, ⟨6, _⟩ => ⟨S20x88, .f32⟩
  | .local _ .vmem, ⟨7, _⟩ => ⟨S5896x200, .f32⟩
  | .local _ .vmem, ⟨8, _⟩ => ⟨S2x20, .bf16⟩
  | .local _ .vmem, ⟨9, _⟩ => ⟨S1x20, .f32⟩
  | .local _ .vmem, ⟨10, _⟩ => ⟨S1x200, .f32⟩
  | .local _ .vmem, ⟨11, _⟩ => ⟨S200x80, .f32⟩
  | .local _ .vmem, ⟨12, _⟩ => ⟨S1x80, .f32⟩
  | .local _ .vmem, ⟨13, _⟩ => ⟨S80x2, .f32⟩
  | .local _ .vmem, ⟨14, _⟩ => ⟨S1x2, .f32⟩
  | .local _ .vmem, ⟨15, _⟩ => ⟨S4096x2, .f32⟩
  | .local _ .vmem, ⟨16, _⟩ => ⟨S4096x2, .f32⟩
  | .local _ .vmem, ⟨17, _⟩ => ⟨S65x200, .f32⟩
  | .local _ .vmem, ⟨18, _⟩ => ⟨S65x200, .f32⟩
  | .local _ .vmem, ⟨19, _⟩ => ⟨S20x200, .f32⟩
  | .local _ .vmem, ⟨20, _⟩ => ⟨S1x200, .f32⟩
  | _, _ => ⟨S16384x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x65 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x88 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x88 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x88 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5896x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x20 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S200x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x80 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S80x2 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16384x2 : Shape := ⟨2, ![16384, 2]⟩
abbrev S16384x20x3 : Shape := ⟨3, ![16384, 20, 3]⟩
abbrev S16384x1x3 : Shape := ⟨3, ![16384, 1, 3]⟩
abbrev S12x88 : Shape := ⟨2, ![12, 88]⟩
abbrev S31x88 : Shape := ⟨2, ![31, 88]⟩
abbrev S20x88 : Shape := ⟨2, ![20, 88]⟩
abbrev S5896x200 : Shape := ⟨2, ![5896, 200]⟩
abbrev S200 : Shape := ⟨1, ![200]⟩
abbrev S200x80 : Shape := ⟨2, ![200, 80]⟩
abbrev S80 : Shape := ⟨1, ![80]⟩
abbrev S80x2 : Shape := ⟨2, ![80, 2]⟩
abbrev S2 : Shape := ⟨1, ![2]⟩
abbrev S_ : Shape := ⟨0, ![]⟩
abbrev S1 : Shape := ⟨1, ![1]⟩
abbrev S3 : Shape := ⟨1, ![3]⟩
abbrev S1x2 : Shape := ⟨2, ![1, 2]⟩
abbrev S16384x2x1 : Shape := ⟨3, ![16384, 2, 1]⟩
abbrev S1x1x1 : Shape := ⟨3, ![1, 1, 1]⟩
abbrev S16384x2x88 : Shape := ⟨3, ![16384, 2, 88]⟩
abbrev S16384x176 : Shape := ⟨2, ![16384, 176]⟩
abbrev S1x1x3 : Shape := ⟨3, ![1, 1, 3]⟩
abbrev S16384x20x3x1 : Shape := ⟨4, ![16384, 20, 3, 1]⟩
abbrev S1x1x1x1 : Shape := ⟨4, ![1, 1, 1, 1]⟩
abbrev S16384x20x3x88 : Shape := ⟨4, ![16384, 20, 3, 88]⟩
abbrev S16384x20x264 : Shape := ⟨3, ![16384, 20, 264]⟩
abbrev S16384x5280 : Shape := ⟨2, ![16384, 5280]⟩
abbrev S16384x1x3x1 : Shape := ⟨4, ![16384, 1, 3, 1]⟩
abbrev S16384x1x3x88 : Shape := ⟨4, ![16384, 1, 3, 88]⟩
abbrev S16384x264 : Shape := ⟨2, ![16384, 264]⟩
abbrev S16384x5896 : Shape := ⟨2, ![16384, 5896]⟩
abbrev S16384x200 : Shape := ⟨2, ![16384, 200]⟩
abbrev S1x200 : Shape := ⟨2, ![1, 200]⟩
abbrev S16384x80 : Shape := ⟨2, ![16384, 80]⟩
abbrev S1x80 : Shape := ⟨2, ![1, 80]⟩

abbrev nBuf : Space → Nat
  | .hbm => 158
  | .vmem => 0
  | .smem => 0
  | _ => 0

abbrev hbmTy0_0 (i : Nat) : BufTy := match i % 128 with
  | 0 => ⟨S16384x2, .i32⟩
  | 1 => ⟨S16384x20x3, .i32⟩
  | 2 => ⟨S16384x1x3, .i32⟩
  | 3 => ⟨S16384x2, .i32⟩
  | 4 => ⟨S12x88, .f32⟩
  | 5 => ⟨S31x88, .f32⟩
  | 6 => ⟨S20x88, .f32⟩
  | 7 => ⟨S5896x200, .f32⟩
  | 8 => ⟨S200, .f32⟩
  | 9 => ⟨S200x80, .f32⟩
  | 10 => ⟨S80, .f32⟩
  | 11 => ⟨S80x2, .f32⟩
  | 12 => ⟨S2, .f32⟩
  | 13 => ⟨S_, .i32⟩
  | 14 => ⟨S_, .i32⟩
  | 15 => ⟨S1, .i32⟩
  | 16 => ⟨S1, .i32⟩
  | 17 => ⟨S2, .i32⟩
  | 18 => ⟨S_, .i32⟩
  | 19 => ⟨S_, .i32⟩
  | 20 => ⟨S_, .i32⟩
  | 21 => ⟨S1, .i32⟩
  | 22 => ⟨S1, .i32⟩
  | 23 => ⟨S1, .i32⟩
  | 24 => ⟨S3, .i32⟩
  | 25 => ⟨S_, .i32⟩
  | 26 => ⟨S_, .i32⟩
  | 27 => ⟨S1, .i32⟩
  | 28 => ⟨S1, .i32⟩
  | 29 => ⟨S2, .i32⟩
  | 30 => ⟨S1x2, .i32⟩
  | 31 => ⟨S16384x2, .i32⟩
  | 32 => ⟨S16384x2, .i32⟩
  | 33 => ⟨S_, .i32⟩
  | 34 => ⟨S16384x2, .i32⟩
  | 35 => ⟨S16384x2, .i1⟩
  | 36 => ⟨S_, .i32⟩
  | 37 => ⟨S16384x2, .i32⟩
  | 38 => ⟨S16384x2, .i32⟩
  | 39 => ⟨S16384x2, .i32⟩
  | 40 => ⟨S16384x2x1, .i32⟩
  | 41 => ⟨S1, .i32⟩
  | 42 => ⟨S_, .i32⟩
  | 43 => ⟨S16384x2x1, .i32⟩
  | 44 => ⟨S16384x2x1, .i1⟩
  | 45 => ⟨S1x1x1, .i32⟩
  | 46 => ⟨S16384x2x1, .i32⟩
  | 47 => ⟨S16384x2x1, .i1⟩
  | 48 => ⟨S16384x2x1, .i1⟩
  | 49 => ⟨S_, .i1⟩
  | 50 => ⟨S16384x2, .i1⟩
  | 51 => ⟨S16384x2x88, .f32⟩
  | 52 => ⟨S16384x2x88, .i1⟩
  | 53 => ⟨S_, .f32⟩
  | 54 => ⟨S16384x2x88, .f32⟩
  | 55 => ⟨S16384x2x88, .f32⟩
  | 56 => ⟨S16384x176, .f32⟩
  | 57 => ⟨S1x1x3, .i32⟩
  | 58 => ⟨S16384x20x3, .i32⟩
  | 59 => ⟨S16384x20x3, .i32⟩
  | 60 => ⟨S_, .i32⟩
  | 61 => ⟨S16384x20x3, .i32⟩
  | 62 => ⟨S16384x20x3, .i1⟩
  | 63 => ⟨S_, .i32⟩
  | 64 => ⟨S16384x20x3, .i32⟩
  | 65 => ⟨S16384x20x3, .i32⟩
  | 66 => ⟨S16384x20x3, .i32⟩
  | 67 => ⟨S16384x20x3x1, .i32⟩
  | 68 => ⟨S1, .i32⟩
  | 69 => ⟨S_, .i32⟩
  | 70 => ⟨S16384x20x3x1, .i32⟩
  | 71 => ⟨S16384x20x3x1, .i1⟩
  | 72 => ⟨S1x1x1x1, .i32⟩
  | 73 => ⟨S16384x20x3x1, .i32⟩
  | 74 => ⟨S16384x20x3x1, .i1⟩
  | 75 => ⟨S16384x20x3x1, .i1⟩
  | 76 => ⟨S_, .i1⟩
  | 77 => ⟨S16384x20x3, .i1⟩
  | 78 => ⟨S16384x20x3x88, .f32⟩
  | 79 => ⟨S16384x20x3x88, .i1⟩
  | 80 => ⟨S_, .f32⟩
  | 81 => ⟨S16384x20x3x88, .f32⟩
  | 82 => ⟨S16384x20x3x88, .f32⟩
  | 83 => ⟨S16384x20x264, .f32⟩
  | 84 => ⟨S16384x5280, .f32⟩
  | 85 => ⟨S1x1x3, .i32⟩
  | 86 => ⟨S16384x1x3, .i32⟩
  | 87 => ⟨S16384x1x3, .i32⟩
  | 88 => ⟨S_, .i32⟩
  | 89 => ⟨S16384x1x3, .i32⟩
  | 90 => ⟨S16384x1x3, .i1⟩
  | 91 => ⟨S_, .i32⟩
  | 92 => ⟨S16384x1x3, .i32⟩
  | 93 => ⟨S16384x1x3, .i32⟩
  | 94 => ⟨S16384x1x3, .i32⟩
  | 95 => ⟨S16384x1x3x1, .i32⟩
  | 96 => ⟨S1, .i32⟩
  | 97 => ⟨S_, .i32⟩
  | 98 => ⟨S16384x1x3x1, .i32⟩
  | 99 => ⟨S16384x1x3x1, .i1⟩
  | 100 => ⟨S1x1x1x1, .i32⟩
  | 101 => ⟨S16384x1x3x1, .i32⟩
  | 102 => ⟨S16384x1x3x1, .i1⟩
  | 103 => ⟨S16384x1x3x1, .i1⟩
  | 104 => ⟨S_, .i1⟩
  | 105 => ⟨S16384x1x3, .i1⟩
  | 106 => ⟨S16384x1x3x88, .f32⟩
  | 107 => ⟨S16384x1x3x88, .i1⟩
  | 108 => ⟨S_, .f32⟩
  | 109 => ⟨S16384x1x3x88, .f32⟩
  | 110 => ⟨S16384x1x3x88, .f32⟩
  | 111 => ⟨S16384x264, .f32⟩
  | 112 => ⟨S1x2, .i32⟩
  | 113 => ⟨S16384x2, .i32⟩
  | 114 => ⟨S16384x2, .i32⟩
  | 115 => ⟨S_, .i32⟩
  | 116 => ⟨S16384x2, .i32⟩
  | 117 => ⟨S16384x2, .i1⟩
  | 118 => ⟨S_, .i32⟩
  | 119 => ⟨S16384x2, .i32⟩
  | 120 => ⟨S16384x2, .i32⟩
  | 121 => ⟨S16384x2, .i32⟩
  | 122 => ⟨S16384x2x1, .i32⟩
  | 123 => ⟨S1, .i32⟩
  | 124 => ⟨S_, .i32⟩
  | 125 => ⟨S16384x2x1, .i32⟩
  | 126 => ⟨S16384x2x1, .i1⟩
  | 127 => ⟨S1x1x1, .i32⟩
  | _ => ⟨S16384x2, .i32⟩

abbrev hbmTy0_1 (i : Nat) : BufTy := match i % 128 with
  | 0 => ⟨S16384x2x1, .i32⟩
  | 1 => ⟨S16384x2x1, .i1⟩
  | 2 => ⟨S16384x2x1, .i1⟩
  | 3 => ⟨S_, .i1⟩
  | 4 => ⟨S16384x2, .i1⟩
  | 5 => ⟨S16384x2x88, .f32⟩
  | 6 => ⟨S16384x2x88, .i1⟩
  | 7 => ⟨S_, .f32⟩
  | 8 => ⟨S16384x2x88, .f32⟩
  | 9 => ⟨S16384x2x88, .f32⟩
  | 10 => ⟨S16384x176, .f32⟩
  | 11 => ⟨S16384x5896, .f32⟩
  | 12 => ⟨S16384x200, .f32⟩
  | 13 => ⟨S1x200, .f32⟩
  | 14 => ⟨S16384x200, .f32⟩
  | 15 => ⟨S16384x200, .f32⟩
  | 16 => ⟨S_, .f32⟩
  | 17 => ⟨S16384x200, .f32⟩
  | 18 => ⟨S16384x200, .f32⟩
  | 19 => ⟨S16384x80, .f32⟩
  | 20 => ⟨S1x80, .f32⟩
  | 21 => ⟨S16384x80, .f32⟩
  | 22 => ⟨S16384x80, .f32⟩
  | 23 => ⟨S_, .f32⟩
  | 24 => ⟨S16384x80, .f32⟩
  | 25 => ⟨S16384x80, .f32⟩
  | 26 => ⟨S16384x2, .f32⟩
  | 27 => ⟨S1x2, .f32⟩
  | 28 => ⟨S16384x2, .f32⟩
  | 29 => ⟨S16384x2, .f32⟩
  | _ => ⟨S16384x2, .i32⟩

abbrev hbmTy (i : Nat) : BufTy := match i / 128 with
  | 0 => hbmTy0_0 i
  | 1 => hbmTy0_1 i
  | _ => ⟨S16384x2, .i32⟩

abbrev bufTy : (tb : Table) → Fin (tcTables nBuf tb) → BufTy
  | .hbm, ⟨i, _⟩ => hbmTy i
  | _, _ => ⟨S16384x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_c_2 : Ref sig .tc := ⟨.hbm, 19, rfl⟩
abbrev main_c_3 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_4 : Ref sig .tc := ⟨.hbm, 25, rfl⟩
abbrev main_c_5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_call1_cst : Ref sig .tc := ⟨.hbm, 80, rfl⟩
abbrev main_call1_v15 : Ref sig .tc := ⟨.hbm, 81, rfl⟩
abbrev main_v18 : Ref sig .tc := ⟨.hbm, 82, rfl⟩
abbrev main_v19 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_v28 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v29 : Ref sig .tc := ⟨.hbm, 137, rfl⟩
abbrev main_v30 : Ref sig .tc := ⟨.hbm, 138, rfl⟩
abbrev main_v31 : Ref sig .tc := ⟨.hbm, 139, rfl⟩
abbrev main_v32 : Ref sig .tc := ⟨.hbm, 140, rfl⟩
abbrev main_v33 : Ref sig .tc := ⟨.hbm, 141, rfl⟩
abbrev main_v34 : Ref sig .tc := ⟨.hbm, 142, rfl⟩
abbrev main_v35 : Ref sig .tc := ⟨.hbm, 143, rfl⟩
abbrev main_call4_cst : Ref sig .tc := ⟨.hbm, 144, rfl⟩
abbrev main_call4_v0 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_call5_cst : Ref sig .tc := ⟨.hbm, 151, rfl⟩
abbrev main_call5_v0 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩

abbrev nD : Nat := 1
abbrev τ : Topo := Topo.v7x

variable {F : FTy → Type} [FloatOps F]
-- ==== Proof.Reads.lean ====
/- Arrays read at natural-number places, and the products the kernel's prologue forms, read at an index over the extended
   reals. -/
module

public import proofs.«01_k».proof.Proof.Gen.KernelIdeal.Value
public import Idealize.ShloMosaic.Lib.Tactic
public import Idealize.ShloMosaic.Lib.ValueIdx
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open scoped BigOperators

namespace Cert.KernelIdeal.Ctr

open Cert.KernelIdeal Cert.KernelIdeal.Gen

/-- A rank-two array of extended reals read at two natural numbers, zero outside it. -/
def at2 {n k : ℕ} (x : (⟨2, ![n, k]⟩ : Shape).Idx → EReal) (a b : ℕ) : EReal :=
  if h : a < n ∧ b < k then x (ix2 ⟨a, h.1⟩ ⟨b, h.2⟩) else 0

theorem at2_ix {n k : ℕ} (x : (⟨2, ![n, k]⟩ : Shape).Idx → EReal) (a : Fin n) (b : Fin k) :
    at2 x a.val b.val = x (ix2 a b) := by
  unfold at2
  rw [dif_pos ⟨a.isLt, b.isLt⟩]

/-- Row `o + v` of a table against the 88 rows of the weights from row `p` on, at column `j`. -/
def Q {n k m l : ℕ} (x : (⟨2, ![n, k]⟩ : Shape).Idx → EReal) (w : (⟨2, ![m, l]⟩ : Shape).Idx → EReal)
    (o p v j : ℕ) : EReal := ∑ e : Fin 88, at2 x (o + v) e.val * at2 w (p + e.val) j

/-- The array at an index given by two bounded numbers. -/
theorem ix_at2 {n k : ℕ} (x : (⟨2, ![n, k]⟩ : Shape).Idx → EReal) (a b : ℕ) (ha : a < n) (hb : b < k) :
    x (ix2 ⟨a, ha⟩ ⟨b, hb⟩) = at2 x a b := (at2_ix x ⟨a, ha⟩ ⟨b, hb⟩).symm

/-- The word of the number two. -/
theorem two_f32 : Ideal.ofBits .f32 0x40000000#32 = ((2 : ℝ) : EReal) := by
  simp [Ideal.ofBits, Ideal.ieee, -EReal.coe_mul]; norm_num

/-- The word of one half. -/
theorem half_bf16 : Ideal.ofBits .bf16 0x3F00#16 = ((1 / 2 : ℝ) : EReal) := by
  simp [Ideal.ofBits, Ideal.ieee, -EReal.coe_mul]; norm_num

variable (a3 : Memref sig .tc .vmem S12x88 .f32) (h3 : a3.IsWhole)
  (a4 : Memref sig .tc .vmem S31x88 .f32) (h4 : a4.IsWhole)
  (a5 : Memref sig .tc .vmem S20x88 .f32) (h5 : a5.IsWhole)
  (a6 : Memref sig .tc .vmem S5896x200 .f32) (h6 : a6.IsWhole)
  (x2 : Vec Ideal S12x88 .f32) (x3 : Vec Ideal S31x88 .f32) (x4 : Vec Ideal S20x88 .f32) (x5 : Vec Ideal S5896x200 .f32)

/-- Two rows of the first table against 88 rows of the weights. -/
theorem mm2 (o p : ℕ) (i3 i6) (v : Fin 2) (j : Fin 200) :
    k0_pay2 (F := Ideal) (View.readAt (Elt Ideal) a3.view (Rect.unit (s := S12x88) ![o, 0] S2x88.size i3).toLoadRect (h3.unread x2))
      (View.readAt (Elt Ideal) a6.view (Rect.unit (s := S5896x200) ![p, 0] S88x200.size i6).toLoadRect (h6.unread x5)) (ix2 v j)
      = Q x2 x5 o p v.val j.val := by
  unfold k0_pay2
  simp only [View.readAt_eq_ld, h3.read_unread, h6.read_unread]
  simp only [pointwise]
  rw [show (0 : EReal) + _ = _ from zero_add _]
  refine Finset.sum_congr rfl fun e _ => ?_
  simp only [ix_at2, Matrix.cons_val_zero, Matrix.cons_val_one, one_mul, zero_add]

/-- Three rows of the second table against 88 rows of the weights. -/
theorem mm3 (o p : ℕ) (i3 i6) (v : Fin 3) (j : Fin 200) :
    k0_pay9 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) (ix2 v j)
      = Q x3 x5 o p v.val j.val := by
  unfold k0_pay9
  simp only [View.readAt_eq_ld, h4.read_unread, h6.read_unread]
  simp only [pointwise]
  rw [show (0 : EReal) + _ = _ from zero_add _]
  refine Finset.sum_congr rfl fun e _ => ?_
  simp only [ix_at2, Matrix.cons_val_zero, Matrix.cons_val_one, one_mul, zero_add]

/-- The step row of a user segment. -/
theorem pb2 (o p : ℕ) (i3 i6) (i : Fin 1) (j : Fin 200) :
    k0_pay3 (F := Ideal) (View.readAt (Elt Ideal) a3.view (Rect.unit (s := S12x88) ![o, 0] S2x88.size i3).toLoadRect (h3.unread x2))
      (View.readAt (Elt Ideal) a6.view (Rect.unit (s := S5896x200) ![p, 0] S88x200.size i6).toLoadRect (h6.unread x5)) (ix2 i j)
      = Q x2 x5 o p 1 j.val - Q x2 x5 o p 0 j.val := by
  obtain rfl : i = 0 := Subsingleton.elim _ _
  unfold k0_pay3 k0_pay2
  simp only [View.readAt_eq_ld, h3.read_unread, h6.read_unread]
  simp only [pointwise]
  simp only [ix_at2, Matrix.cons_val_zero, Matrix.cons_val_one, one_mul, zero_add, add_zero, Fin.val_zero, two_f32, Q]
  rfl

/-- The step row of a segment with three values. -/
theorem pb3 (o p : ℕ) (i3 i6) (i : Fin 1) (j : Fin 200) :
    k0_pay10 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) (ix2 i j)
      = Q x3 x5 o p 1 j.val - Q x3 x5 o p 0 j.val := by
  obtain rfl : i = 0 := Subsingleton.elim _ _
  unfold k0_pay10 k0_pay9
  simp only [View.readAt_eq_ld, h4.read_unread, h6.read_unread]
  simp only [pointwise]
  simp only [ix_at2, Matrix.cons_val_zero, Matrix.cons_val_one, one_mul, zero_add, add_zero, Fin.val_zero, two_f32, Q]
  rfl

/-- The bend row of a segment with three values. -/
theorem pc3 (o p : ℕ) (i3 i6) (i : Fin 1) (j : Fin 200) :
    k0_pay11 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) (ix2 i j)
      = Q x3 x5 o p 2 j.val - ((2 : ℝ) : EReal) * Q x3 x5 o p 1 j.val + Q x3 x5 o p 0 j.val := by
  obtain rfl : i = 0 := Subsingleton.elim _ _
  unfold k0_pay11 k0_pay9
  simp only [View.readAt_eq_ld, h4.read_unread, h6.read_unread]
  simp only [pointwise]
  simp only [ix_at2, Matrix.cons_val_zero, Matrix.cons_val_one, one_mul, zero_add, add_zero, Fin.val_zero, two_f32, Q]
  rfl

/-- The first row of a segment with three values. -/
theorem row3 (o p : ℕ) (i3 i6) (i : Fin 1) (j : Fin 200) :
    k0_pay16 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) (ix2 i j)
      = Q x3 x5 o p 0 j.val := by
  obtain rfl : i = 0 := Subsingleton.elim _ _
  unfold k0_pay16 k0_pay13
  simp only [View.readAt_eq_ld, h4.read_unread, h6.read_unread]
  simp only [pointwise]
  simp only [ix_at2, Matrix.cons_val_zero, Matrix.cons_val_one, one_mul, zero_add, add_zero, Fin.val_zero, two_f32, Q]

/-- Ten rows of the context table against 88 rows of the weights. -/
theorem qc10 (o p : ℕ) (i3 i6) (v : Fin 10) (j : Fin 200) :
    k0_pay261 (F := Ideal) (View.readAt (Elt Ideal) a5.view (Rect.unit (s := S20x88) ![o, 0] S10x88.size i3).toLoadRect (h5.unread x4))
      (View.readAt (Elt Ideal) a6.view (Rect.unit (s := S5896x200) ![p, 0] S88x200.size i6).toLoadRect (h6.unread x5)) (ix2 v j)
      = Q x4 x5 o p v.val j.val := by
  unfold k0_pay261
  simp only [View.readAt_eq_ld, h5.read_unread, h6.read_unread]
  simp only [pointwise]
  simp only [ix_at2, Matrix.cons_val_zero, Matrix.cons_val_one, one_mul, zero_add, Q]

end Cert.KernelIdeal.Ctr

end
-- ==== Proof.Scratches.lean ====
/- What the prologue leaves in the four scratch arrays: the step rows, the bend rows, the context rows and the base row. -/
module

public import proofs.«01_k».proof.Proof.Reads

@[expose] public section

set_option maxRecDepth 16384

noncomputable section

open Idealize.ShloMosaic Idealize.ShloMosaic.TcCoe Idealize.SL.Sem
open scoped BigOperators

namespace Cert.KernelIdeal.Ctr

open Cert.KernelIdeal Cert.KernelIdeal.Gen

/-- The segment that row `r` of the scratch arrays stands for: the user's two fields, the behaviours field by field, the
    advert's three fields. -/
def seg (r : ℕ) : ℕ := if r < 2 then r else if r < 62 then 2 + 3 * ((r - 2) % 20) + (r - 2) / 20 else r

/-- The first row of the advert table that belongs to field `f`. -/
def adOff (f : ℕ) : ℕ := if f = 0 then 0 else if f = 1 then 3 else 16

/-- The field of row `r`, past the user's rows. -/
def fld (r : ℕ) : ℕ := if r < 62 then (r - 2) / 20 else r - 62

/-- The row that the prologue reaches as its `k`-th: after the user's rows, field by field the behaviours' rows and then the
    advert's row. -/
def ord (k : ℕ) : ℕ :=
  if k < 2 then k else if (k - 2) % 21 = 20 then 62 + (k - 2) / 21 else 2 + 20 * ((k - 2) / 21) + (k - 2) % 21

section
variable (x2 : Vec Ideal S12x88 .f32) (x3 : Vec Ideal S31x88 .f32) (x4 : Vec Ideal S20x88 .f32) (x5 : Vec Ideal S5896x200 .f32)
  (x8 : Vec Ideal S1x200 .f32)

/-- What row `r`'s segment adds to hidden column `j` when its value is `v`. -/
def qr (r v j : ℕ) : EReal :=
  if r < 2 then Q x2 x5 (2 * r) (88 * r) v j else Q x3 x5 (adOff (fld r)) (88 * seg r) v j

/-- The step rows. -/
def PB : Vec Ideal S65x200 .f32 := fun y => qr x2 x3 x5 (y 0).val 1 (y 1).val - qr x2 x3 x5 (y 0).val 0 (y 1).val

/-- The bend rows; a user segment, of two values, has none. -/
def PC : Vec Ideal S65x200 .f32 := fun y =>
  if (y 0).val < 2 then 0 else
    qr x2 x3 x5 (y 0).val 2 (y 1).val - ((2 : ℝ) : EReal) * qr x2 x3 x5 (y 0).val 1 (y 1).val + qr x2 x3 x5 (y 0).val 0 (y 1).val

/-- The context rows: field by field, value by value. -/
def QC : Vec Ideal S20x200 .f32 := fun y =>
  Q x4 x5 (10 * ((y 0).val / 10)) (5720 + 88 * ((y 0).val / 10)) ((y 0).val % 10) (y 1).val

/-- The bias and the first `k` rows reached, at value zero. -/
def baseTo (k j : ℕ) : EReal := at2 x8 0 j + ∑ r ∈ Finset.range k, qr x2 x3 x5 (ord r) 0 j

/-- The base row. -/
def BASE : Vec Ideal S1x200 .f32 := fun y => baseTo x2 x3 x5 x8 65 (y 1).val

theorem baseTo_succ (k j : ℕ) : baseTo x2 x3 x5 x8 (k + 1) j = baseTo x2 x3 x5 x8 k j + qr x2 x3 x5 (ord k) 0 j := by
  unfold baseTo
  rw [Finset.sum_range_succ, add_assoc]

end

variable (c : Dev nD) (i : grid0.Coords)
  (a1 : Memref sig .tc .vmem S4096x65 .i8) (h1 : a1.IsWhole)
  (a2 : Memref sig .tc .vmem S4096x2 .i8) (h2 : a2.IsWhole)
  (a3 : Memref sig .tc .vmem S12x88 .f32) (h3 : a3.IsWhole)
  (a4 : Memref sig .tc .vmem S31x88 .f32) (h4 : a4.IsWhole)
  (a5 : Memref sig .tc .vmem S20x88 .f32) (h5 : a5.IsWhole)
  (a6 : Memref sig .tc .vmem S5896x200 .f32) (h6 : a6.IsWhole)
  (a7 : Memref sig .tc .vmem S2x20 .bf16) (h7 : a7.IsWhole)
  (a8 : Memref sig .tc .vmem S1x20 .f32) (h8 : a8.IsWhole)
  (a9 : Memref sig .tc .vmem S1x200 .f32) (h9 : a9.IsWhole)
  (a10 : Memref sig .tc .vmem S200x80 .f32) (h10 : a10.IsWhole)
  (a11 : Memref sig .tc .vmem S1x80 .f32) (h11 : a11.IsWhole)
  (a12 : Memref sig .tc .vmem S80x2 .f32) (h12 : a12.IsWhole)
  (a13 : Memref sig .tc .vmem S1x2 .f32) (h13 : a13.IsWhole)
  (a14 : Memref sig .tc .vmem S4096x2 .f32) (h14 : a14.IsWhole)
  (a15 : Memref sig .tc .vmem S65x200 .f32) (h15 : a15.IsWhole)
  (a16 : Memref sig .tc .vmem S65x200 .f32) (h16 : a16.IsWhole)
  (a17 : Memref sig .tc .vmem S20x200 .f32) (h17 : a17.IsWhole)
  (a18 : Memref sig .tc .vmem S1x200 .f32) (h18 : a18.IsWhole)
  (x0 : Vec Ideal S4096x65 .i8)
  (x1 : Vec Ideal S4096x2 .i8)
  (x2 : Vec Ideal S12x88 .f32)
  (x3 : Vec Ideal S31x88 .f32)
  (x4 : Vec Ideal S20x88 .f32)
  (x5 : Vec Ideal S5896x200 .f32)
  (x6 : Vec Ideal S2x20 .bf16)
  (x7 : Vec Ideal S1x20 .f32)
  (x8 : Vec Ideal S1x200 .f32)
  (x9 : Vec Ideal S200x80 .f32)
  (x10 : Vec Ideal S1x80 .f32)
  (x11 : Vec Ideal S80x2 .f32)
  (x12 : Vec Ideal S1x2 .f32)

/-- A function of an index's two places, at a row piece's index. -/
theorem emb_row (r : ℕ) (g : ℕ → ℕ → EReal) (ir) (i : Fin 1) (j : Fin 200) :
    (fun y : S65x200.Idx => g (y 0).val (y 1).val) ((Rect.unit (s := S65x200) ![r, 0] S1x200.size ir).emb (ix2 i j))
      = g r j.val := by
  obtain rfl : i = 0 := Subsingleton.elim _ _
  show g (r + 1 * 0) (0 + 1 * j.val) = g r j.val
  simp only [Nat.mul_zero, Nat.add_zero, Nat.one_mul, Nat.zero_add]

/-- A step row of a user segment, as a piece of the array. -/
theorem piece_pb2 (r o p : ℕ) (ho : o = 2 * r) (hp : p = 88 * r) (hr : r < 2) (ir) (i3 i6) (x : S1x200.Idx) :
    k0_pay3 (F := Ideal) (View.readAt (Elt Ideal) a3.view (Rect.unit (s := S12x88) ![o, 0] S2x88.size i3).toLoadRect (h3.unread x2))
      (View.readAt (Elt Ideal) a6.view (Rect.unit (s := S5896x200) ![p, 0] S88x200.size i6).toLoadRect (h6.unread x5)) x
      = PB x2 x3 x5 ((Rect.unit (s := S65x200) ![r, 0] S1x200.size ir).emb x) := by
  obtain ⟨i, j, rfl⟩ : ∃ (i : Fin 1) (j : Fin 200), x = ix2 i j := ⟨_, _, eq_ix2 x⟩
  refine Eq.trans ?_ (emb_row r (fun r j => qr x2 x3 x5 r 1 j - qr x2 x3 x5 r 0 j) ir i j).symm
  rw [pb2]
  simp only [qr, if_pos hr, ho, hp]

/-- A step row of a segment with three values, as a piece of the array. -/
theorem piece_pb3 (r o p : ℕ) (ho : o = adOff (fld r)) (hp : p = 88 * seg r) (hr : ¬ r < 2) (ir) (i3 i6) (x : S1x200.Idx) :
    k0_pay10 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) x
      = PB x2 x3 x5 ((Rect.unit (s := S65x200) ![r, 0] S1x200.size ir).emb x) := by
  obtain ⟨i, j, rfl⟩ : ∃ (i : Fin 1) (j : Fin 200), x = ix2 i j := ⟨_, _, eq_ix2 x⟩
  refine Eq.trans ?_ (emb_row r (fun r j => qr x2 x3 x5 r 1 j - qr x2 x3 x5 r 0 j) ir i j).symm
  rw [pb3]
  simp only [qr, if_neg hr, ho, hp]

/-- A bend row of a segment with three values, as a piece of the array. -/
theorem piece_pc3 (r o p : ℕ) (ho : o = adOff (fld r)) (hp : p = 88 * seg r) (hr : ¬ r < 2) (ir) (i3 i6) (x : S1x200.Idx) :
    k0_pay11 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5)) x
      = PC x2 x3 x5 ((Rect.unit (s := S65x200) ![r, 0] S1x200.size ir).emb x) := by
  obtain ⟨i, j, rfl⟩ : ∃ (i : Fin 1) (j : Fin 200), x = ix2 i j := ⟨_, _, eq_ix2 x⟩
  refine Eq.trans ?_ (emb_row r (fun r j => if r < 2 then 0 else qr x2 x3 x5 r 2 j - ((2 : ℝ) : EReal) * qr x2 x3 x5 r 1 j + qr x2 x3 x5 r 0 j) ir i j).symm
  rw [pc3]
  simp only [qr, if_neg hr, ho, hp]

/-- A bend row of a user segment is zero. -/
theorem piece_pc2 (r : ℕ) (hr : r < 2) (ir) (x : S1x200.Idx) :
    k0_pay4 (F := Ideal) x = PC x2 x3 x5 ((Rect.unit (s := S65x200) ![r, 0] S1x200.size ir).emb x) := by
  obtain ⟨i, j, rfl⟩ : ∃ (i : Fin 1) (j : Fin 200), x = ix2 i j := ⟨_, _, eq_ix2 x⟩
  refine Eq.trans ?_ (emb_row r (fun r j => if r < 2 then 0 else qr x2 x3 x5 r 2 j - ((2 : ℝ) : EReal) * qr x2 x3 x5 r 1 j + qr x2 x3 x5 r 0 j) ir i j).symm
  unfold k0_pay4
  simp only [pointwise, if_pos hr]

/-- Ten context rows, as a piece of the array. -/
theorem piece_qc (f o p : ℕ) (ho : o = 10 * f) (hp : p = 5720 + 88 * f) (ir) (i3 i6) (x : S10x200.Idx) :
    k0_pay261 (F := Ideal) (View.readAt (Elt Ideal) a5.view (Rect.unit (s := S20x88) ![o, 0] S10x88.size i3).toLoadRect (h5.unread x4))
      (View.readAt (Elt Ideal) a6.view (Rect.unit (s := S5896x200) ![p, 0] S88x200.size i6).toLoadRect (h6.unread x5)) x
      = QC x4 x5 ((Rect.unit (s := S20x200) ![o, 0] S10x200.size ir).emb x) := by
  obtain ⟨v, j, rfl⟩ : ∃ (i : Fin 10) (j : Fin 200), x = ix2 i j := ⟨_, _, eq_ix2 x⟩
  rw [qc10]
  show _ = Q x4 x5 (10 * ((o + 1 * v.val) / 10)) (5720 + 88 * ((o + 1 * v.val) / 10)) ((o + 1 * v.val) % 10) (0 + 1 * j.val)
  have h1 : (o + 1 * v.val) / 10 = f := by have := v.isLt; omega
  have h2 : (o + 1 * v.val) % 10 = v.val := by have := v.isLt; omega
  rw [h1, h2, ho, hp, Nat.one_mul, Nat.zero_add]

/-- Adding a segment's first row to the bias and the rows before. -/
theorem base_step (r o p : ℕ) (j : Fin 200) (acc : Vec Ideal S1x200 .f32) (i3 i6)
    (ho : o = adOff (fld (ord r))) (hp : p = 88 * seg (ord r)) (hr : ¬ ord r < 2)
    (hacc : acc (ix2 0 j) = baseTo x2 x3 x5 x8 r j.val) :
    addf acc (k0_pay16 (F := Ideal) (View.readAt (Elt Ideal) a4.view (Rect.unit (s := S31x88) ![o, 0] S3x88.size i3).toLoadRect (h4.unread x3))
      (View.readAt (Elt Ideal) a6.view (Rect.unit (s := S5896x200) ![p, 0] S88x200.size i6).toLoadRect (h6.unread x5))) (ix2 0 j)
      = baseTo x2 x3 x5 x8 (r + 1) j.val := by
  rw [baseTo_succ, ← hacc]
  refine congrArg (acc (ix2 0 j) + ·) ?_
  rw [row3]
  simp only [qr, if_neg hr, ho, hp]

set_option maxHeartbeats 1600000 in
/-- After the prologue, the array of the step rows. -/
theorem scratch0 (hc : cond0_0 i) : sout0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = PB x2 x3 x5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)]
  funext y
  refine View.canon_apply_of_pieces (PB x2 x3 x5) _ ?_ y (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 y)
  unfold kernelRun0_A
  dsimp only
  sl_unfold_words
  simp only [List.forall_mem_cons, List.not_mem_nil, false_imp_iff, implies_true, and_true]
  iterate 63 refine ⟨fun x => piece_pb3 (ho := by decide) (hp := by decide) (hr := by decide) .., ?_⟩
  exact ⟨fun x => piece_pb2 (ho := by decide) (hp := by decide) (hr := by decide) .., fun x => piece_pb2 (ho := by decide) (hp := by decide) (hr := by decide) ..⟩

set_option maxHeartbeats 1600000 in
/-- After the prologue, the array of the bend rows. -/
theorem scratch1 (hc : cond0_0 i) : sout0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = PC x2 x3 x5 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)]
  funext y
  refine View.canon_apply_of_pieces (PC x2 x3 x5) _ ?_ y (scover0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 y)
  unfold kernelRun0_A
  dsimp only
  sl_unfold_words
  simp only [List.forall_mem_cons, List.not_mem_nil, false_imp_iff, implies_true, and_true]
  iterate 63 refine ⟨fun x => piece_pc3 (ho := by decide) (hp := by decide) (hr := by decide) .., ?_⟩
  exact ⟨fun x => piece_pc2 (hr := by decide) .., fun x => piece_pc2 (hr := by decide) ..⟩

/-- After the prologue, the array of the context rows. -/
theorem scratch2 (hc : cond0_0 i) : sout0_A_2 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = QC x4 x5 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)]
  funext y
  refine View.canon_apply_of_pieces (QC x4 x5) _ ?_ y (scover0_A_2 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 y)
  unfold kernelRun0_A
  dsimp only
  sl_unfold_words
  simp only [List.forall_mem_cons, List.not_mem_nil, false_imp_iff, implies_true, and_true]
  repeat' apply And.intro
  all_goals intro x
  all_goals first
    | exact piece_qc (f := 0) (ho := by decide) (hp := by decide) ..
    | exact piece_qc (f := 1) (ho := by decide) (hp := by decide) ..

/-- The bias and the two user rows. -/
theorem base_user (j : Fin 200) (i9) (i3 i3') (i6 i6') :
    k0_pay8 (F := Ideal) (View.readAt (Elt Ideal) a9.view (Rect.unit (s := S1x200) ![0, 0] S1x200.size i9).toLoadRect (h9.unread x8))
      (View.readAt (Elt Ideal) a3.view (Rect.unit (s := S12x88) ![0, 0] S2x88.size i3).toLoadRect (h3.unread x2))
      (View.readAt (Elt Ideal) a6.view (Rect.unit (s := S5896x200) ![0, 0] S88x200.size i6).toLoadRect (h6.unread x5))
      (View.readAt (Elt Ideal) a3.view (Rect.unit (s := S12x88) ![2, 0] S2x88.size i3').toLoadRect (h3.unread x2))
      (View.readAt (Elt Ideal) a6.view (Rect.unit (s := S5896x200) ![88, 0] S88x200.size i6').toLoadRect (h6.unread x5)) (ix2 0 j)
      = baseTo x2 x3 x5 x8 2 j.val := by
  unfold k0_pay8 k0_pay2 k0_pay5
  simp only [View.readAt_eq_ld, h3.read_unread, h6.read_unread, h9.read_unread]
  simp only [pointwise]
  simp only [ix_at2, Matrix.cons_val_zero, Matrix.cons_val_one, one_mul, zero_add, add_zero, Fin.val_zero, baseTo,
    Finset.sum_range_succ, Finset.sum_range_zero, qr, Q]
  rw [add_assoc]
  rfl

set_option maxHeartbeats 1600000 in
/-- After the prologue, the base row. -/
theorem scratch3 (hc : cond0_0 i) : sout0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = BASE x2 x3 x5 x8 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)]
  unfold kernelRun0_A
  dsimp only
  sl_unfold_words
  rw [View.canon_unit_zero (funext fun a => by fin_cases a <;> rfl)]
  funext y
  obtain ⟨i, j, rfl⟩ : ∃ (i : Fin 1) (j : Fin 200), y = ix2 i j := ⟨_, _, eq_ix2 y⟩
  obtain rfl : i = 0 := Subsingleton.elim _ _
  show _ = baseTo x2 x3 x5 x8 65 j.val
  unfold k0_pay264
  rw [shapeCast_self]
  iterate 63 refine base_step (ho := by decide) (hp := by decide) (hr := by decide) (hacc := ?_) ..
  exact base_user ..

end Cert.KernelIdeal.Ctr

end
-- ==== Proof.Block.lean ====
/- What one block of the output holds: the printed last layers over the scratch arrays, at the first point and at the others. -/
module

public import proofs.«01_k».proof.Proof.Scratches

@[expose] public section

set_option maxRecDepth 16384

noncomputable section
open Idealize.ShloMosaic Idealize.ShloMosaic.TcCoe Idealize.SL.Sem
namespace Cert.KernelIdeal.Ctr
open Cert.KernelIdeal Cert.KernelIdeal.Gen

/-- The block one grid point writes, from its input blocks and the four scratch arrays. -/
def OUT (x0 : Vec Ideal S4096x65 .i8) (x1 : Vec Ideal S4096x2 .i8) (x6 : Vec Ideal S2x20 .bf16) (x7 : Vec Ideal S1x20 .f32)
    (x9 : Vec Ideal S200x80 .f32) (x10 : Vec Ideal S1x80 .f32) (x11 : Vec Ideal S80x2 .f32) (x12 : Vec Ideal S1x2 .f32)
    (pb pc : Vec Ideal S65x200 .f32) (qc : Vec Ideal S20x200 .f32) (base : Vec Ideal S1x200 .f32) : Vec Ideal S4096x2 .f32 :=
  k0_pay1 (k0_pay275 (k0_pay265 x0) (k0_pay266 x0) (k0_pay267 x1 x6 x7) (k0_pay268 pb) (k0_pay269 pb) (k0_pay270 pc) (k0_pay271 pc) (k0_pay272 qc) (k0_pay273 qc) base x9 x10)
    (k0_pay276 (k0_pay265 x0) (k0_pay266 x0) (k0_pay267 x1 x6 x7) (k0_pay268 pb) (k0_pay269 pb) (k0_pay270 pc) (k0_pay271 pc) (k0_pay272 qc) (k0_pay273 qc) base x9 x10)
    x11 (k0_pay277 x11) (k0_pay278 x11) x12

variable (c : Dev nD) (i : grid0.Coords)
  (a1 : Memref sig .tc .vmem S4096x65 .i8) (h1 : a1.IsWhole)
  (a2 : Memref sig .tc .vmem S4096x2 .i8) (h2 : a2.IsWhole)
  (a3 : Memref sig .tc .vmem S12x88 .f32) (h3 : a3.IsWhole)
  (a4 : Memref sig .tc .vmem S31x88 .f32) (h4 : a4.IsWhole)
  (a5 : Memref sig .tc .vmem S20x88 .f32) (h5 : a5.IsWhole)
  (a6 : Memref sig .tc .vmem S5896x200 .f32) (h6 : a6.IsWhole)
  (a7 : Memref sig .tc .vmem S2x20 .bf16) (h7 : a7.IsWhole)
  (a8 : Memref sig .tc .vmem S1x20 .f32) (h8 : a8.IsWhole)
  (a9 : Memref sig .tc .vmem S1x200 .f32) (h9 : a9.IsWhole)
  (a10 : Memref sig .tc .vmem S200x80 .f32) (h10 : a10.IsWhole)
  (a11 : Memref sig .tc .vmem S1x80 .f32) (h11 : a11.IsWhole)
  (a12 : Memref sig .tc .vmem S80x2 .f32) (h12 : a12.IsWhole)
  (a13 : Memref sig .tc .vmem S1x2 .f32) (h13 : a13.IsWhole)
  (a14 : Memref sig .tc .vmem S4096x2 .f32) (h14 : a14.IsWhole)
  (a15 : Memref sig .tc .vmem S65x200 .f32) (h15 : a15.IsWhole)
  (a16 : Memref sig .tc .vmem S65x200 .f32) (h16 : a16.IsWhole)
  (a17 : Memref sig .tc .vmem S20x200 .f32) (h17 : a17.IsWhole)
  (a18 : Memref sig .tc .vmem S1x200 .f32) (h18 : a18.IsWhole)
  (x0 : Vec Ideal S4096x65 .i8)
  (x1 : Vec Ideal S4096x2 .i8)
  (x2 : Vec Ideal S12x88 .f32)
  (x3 : Vec Ideal S31x88 .f32)
  (x4 : Vec Ideal S20x88 .f32)
  (x5 : Vec Ideal S5896x200 .f32)
  (x6 : Vec Ideal S2x20 .bf16)
  (x7 : Vec Ideal S1x20 .f32)
  (x8 : Vec Ideal S1x200 .f32)
  (x9 : Vec Ideal S200x80 .f32)
  (x10 : Vec Ideal S1x80 .f32)
  (x11 : Vec Ideal S80x2 .f32)
  (x12 : Vec Ideal S1x2 .f32)

/-- The offsets of a whole read are all zero. -/
theorem off00 : (![0, 0] : Fin 2 → ℕ) = fun _ => 0 := funext fun a => by fin_cases a <;> rfl
/-- A whole read of a matrix is the matrix. -/
theorem ld00 {a b : ℕ} {e : EltTy} (x : Vec Ideal ⟨2, ![a, b]⟩ e) (inb : ∀ k, (![0, 0] : Fin 2 → ℕ) k + (![a, b] : Fin 2 → ℕ) k ≤ (⟨2, ![a, b]⟩ : Shape).size k) :
    View.ld x (Rect.unit (s := ⟨2, ![a, b]⟩) ![0, 0] ![a, b] inb) = x := View.ld_unit_zero off00 inb x

set_option maxHeartbeats 1600000 in
/-- Reading scratch array 0 back whole at the first point gives what the prologue left in it. -/
theorem back0 (hc : cond0_0 i) : View.readCov a15.view (kernelRun0_A c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12).2.1 (Rect.unit (s := S65x200) ![0, 0] S65x200.size inb_S65x200_S65x200_0_0).toLoadRect = PB x2 x3 x5 := by
  have h := scratch0 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc
  unfold sout0_A_0 at h
  rw [View.read_writes_eq_canon _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)] at h
  rw [View.readCov_eq_canon_ld _ _ _ (scover0_A_0 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12), h]
  exact View.ld_unit_zero off00 _ _

set_option maxHeartbeats 1600000 in
/-- Reading scratch array 1 back whole at the first point gives what the prologue left in it. -/
theorem back1 (hc : cond0_0 i) : View.readCov a16.view (kernelRun0_A c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12).2.2.1 (Rect.unit (s := S65x200) ![0, 0] S65x200.size inb_S65x200_S65x200_0_0).toLoadRect = PC x2 x3 x5 := by
  have h := scratch1 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc
  unfold sout0_A_1 at h
  rw [View.read_writes_eq_canon _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)] at h
  rw [View.readCov_eq_canon_ld _ _ _ (scover0_A_1 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12), h]
  exact View.ld_unit_zero off00 _ _

set_option maxHeartbeats 1600000 in
/-- Reading scratch array 2 back whole at the first point gives what the prologue left in it. -/
theorem back2 (hc : cond0_0 i) : View.readCov a17.view (kernelRun0_A c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12).2.2.2.1 (Rect.unit (s := S20x200) ![0, 0] S20x200.size inb_S20x200_S20x200_0_0).toLoadRect = QC x4 x5 := by
  have h := scratch2 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc
  unfold sout0_A_2 at h
  rw [View.read_writes_eq_canon _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)] at h
  rw [View.readCov_eq_canon_ld _ _ _ (scover0_A_2 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12), h]
  exact View.ld_unit_zero off00 _ _

set_option maxHeartbeats 1600000 in
/-- Reading scratch array 3 back whole at the first point gives what the prologue left in it. -/
theorem back3 (hc : cond0_0 i) : View.readCov a18.view (kernelRun0_A c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12).2.2.2.2.1 (Rect.unit (s := S1x200) ![0, 0] S1x200.size inb_S1x200_S1x200_0_0).toLoadRect = BASE x2 x3 x5 x8 := by
  have h := scratch3 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc
  unfold sout0_A_3 at h
  rw [View.read_writes_eq_canon _ _ _ (scover0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)] at h
  rw [View.readCov_eq_canon_ld _ _ _ (scover0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12), h]
  exact View.ld_unit_zero off00 _ _

set_option maxHeartbeats 3200000 in
/-- The first point's block, over what the prologue leaves in scratch. -/
theorem outA (hc : cond0_0 i) : out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = OUT x0 x1 x6 x7 x9 x10 x11 x12 (PB x2 x3 x5) (PC x2 x3 x5) (QC x4 x5) (BASE x2 x3 x5 x8) := by
  rw [← back0 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc, ← back1 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc, ← back2 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc, ← back3 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 hc]
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12)]
  unfold kernelRun0_A OUT
  dsimp only
  rw [View.canon_unit_zero off00]
  sl_unfold_words
  simp only [View.readAt_eq_ld, h1.read_unread, h2.read_unread, h7.read_unread, h8.read_unread, h10.read_unread, h11.read_unread, h12.read_unread, h13.read_unread, show ∀ inb, View.ld x0 (Rect.unit (s := S4096x65) ![0, 0] ![4096, 65] inb) = x0 from fun inb => ld00 _ inb, show ∀ inb, View.ld x1 (Rect.unit (s := S4096x2) ![0, 0] ![4096, 2] inb) = x1 from fun inb => ld00 _ inb, show ∀ inb, View.ld x6 (Rect.unit (s := S2x20) ![0, 0] ![2, 20] inb) = x6 from fun inb => ld00 _ inb, show ∀ inb, View.ld x7 (Rect.unit (s := S1x20) ![0, 0] ![1, 20] inb) = x7 from fun inb => ld00 _ inb, show ∀ inb, View.ld x9 (Rect.unit (s := S200x80) ![0, 0] ![200, 80] inb) = x9 from fun inb => ld00 _ inb, show ∀ inb, View.ld x10 (Rect.unit (s := S1x80) ![0, 0] ![1, 80] inb) = x10 from fun inb => ld00 _ inb, show ∀ inb, View.ld x11 (Rect.unit (s := S80x2) ![0, 0] ![80, 2] inb) = x11 from fun inb => ld00 _ inb, show ∀ inb, View.ld x12 (Rect.unit (s := S1x2) ![0, 0] ![1, 2] inb) = x12 from fun inb => ld00 _ inb]

set_option maxHeartbeats 1600000 in
/-- A later point's block, over what the scratch arrays hold. -/
theorem outB (hc : ¬ cond0_0 i) (s0 : Vec Ideal S65x200 .f32) (s1 : Vec Ideal S65x200 .f32) (s2 : Vec Ideal S20x200 .f32) (s3 : Vec Ideal S1x200 .f32) : out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 s0 s1 s2 s3 = OUT x0 x1 x6 x7 x9 x10 x11 x12 s0 s1 s2 s3 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 s0 s1 s2 s3)]
  unfold kernelRun0_B OUT
  dsimp only
  sl_unfold_words
  rw [View.canon_unit_zero off00]
  simp only [View.readAt_eq_ld, h1.read_unread, h2.read_unread, h7.read_unread, h8.read_unread, h10.read_unread, h11.read_unread, h12.read_unread, h13.read_unread, h15.read_unread, h16.read_unread, h17.read_unread, h18.read_unread, show ∀ inb, View.ld x0 (Rect.unit (s := S4096x65) ![0, 0] ![4096, 65] inb) = x0 from fun inb => ld00 _ inb, show ∀ inb, View.ld x1 (Rect.unit (s := S4096x2) ![0, 0] ![4096, 2] inb) = x1 from fun inb => ld00 _ inb, show ∀ inb, View.ld x6 (Rect.unit (s := S2x20) ![0, 0] ![2, 20] inb) = x6 from fun inb => ld00 _ inb, show ∀ inb, View.ld x7 (Rect.unit (s := S1x20) ![0, 0] ![1, 20] inb) = x7 from fun inb => ld00 _ inb, show ∀ inb, View.ld x9 (Rect.unit (s := S200x80) ![0, 0] ![200, 80] inb) = x9 from fun inb => ld00 _ inb, show ∀ inb, View.ld x10 (Rect.unit (s := S1x80) ![0, 0] ![1, 80] inb) = x10 from fun inb => ld00 _ inb, show ∀ inb, View.ld x11 (Rect.unit (s := S80x2) ![0, 0] ![80, 2] inb) = x11 from fun inb => ld00 _ inb, show ∀ inb, View.ld x12 (Rect.unit (s := S1x2) ![0, 0] ![1, 2] inb) = x12 from fun inb => ld00 _ inb, show ∀ inb, View.ld s0 (Rect.unit (s := S65x200) ![0, 0] ![65, 200] inb) = s0 from fun inb => ld00 _ inb, show ∀ inb, View.ld s1 (Rect.unit (s := S65x200) ![0, 0] ![65, 200] inb) = s1 from fun inb => ld00 _ inb, show ∀ inb, View.ld s2 (Rect.unit (s := S20x200) ![0, 0] ![20, 200] inb) = s2 from fun inb => ld00 _ inb, show ∀ inb, View.ld s3 (Rect.unit (s := S1x200) ![0, 0] ![1, 200] inb) = s3 from fun inb => ld00 _ inb]
-- ==== Proof.Carried.lean ====
/- What the blocks hold along the grid: the scratch arrays stay what the first point left, so every point writes the
   same last layers over its own rows. -/
module

public import proofs.«01_k».proof.Proof.Block
public import Idealize.ShloMosaic.Lib.Claim
public import Idealize.ShloMosaic.Lib.Pipeline.ValueKit

@[expose] public section

set_option maxRecDepth 16384

noncomputable section
open Idealize.ShloMosaic Idealize.ShloMosaic.TcCoe Idealize.SL.Sem
namespace Cert.KernelIdeal.Ctr
open Cert.KernelIdeal Cert.KernelIdeal.Gen Cert.KernelIdeal.Value

variable (m : (ℓ : Loc nD τ sig) → Buf (Elt Ideal) ℓ)

/-- Where each window's block sits at a grid point. -/
theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] :=
  (by decide +kernel : ∀ t : Fin grid0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0])

/-- The block of window 2 is its whole array. -/
theorem blk2 (c : Dev nD) (t : Fin cfg0.N) : iblk m c 2 t = V m c main_arg4 := by
  funext y; blk_ext [iblk, idx t]

/-- The block of window 3 is its whole array. -/
theorem blk3 (c : Dev nD) (t : Fin cfg0.N) : iblk m c 3 t = V m c main_arg5 := by
  funext y; blk_ext [iblk, idx t]

/-- The block of window 4 is its whole array. -/
theorem blk4 (c : Dev nD) (t : Fin cfg0.N) : iblk m c 4 t = V m c main_arg6 := by
  funext y; blk_ext [iblk, idx t]

/-- The block of window 5 is its whole array. -/
theorem blk5 (c : Dev nD) (t : Fin cfg0.N) : iblk m c 5 t = V m c main_arg7 := by
  funext y; blk_ext [iblk, idx t]

/-- The block of window 6 is its whole array. -/
theorem blk6 (c : Dev nD) (t : Fin cfg0.N) : iblk m c 6 t = V m c main_cst := by
  funext y; blk_ext [iblk, idx t]

/-- The block of window 7 is its whole array. -/
theorem blk7 (c : Dev nD) (t : Fin cfg0.N) : iblk m c 7 t = V m c main_cst_0 := by
  funext y; blk_ext [iblk, idx t]

/-- The block of window 8 is its whole array. -/
theorem blk8 (c : Dev nD) (t : Fin cfg0.N) : iblk m c 8 t = V m c main_v8 := by
  funext y; blk_ext [iblk, idx t]

/-- The block of window 9 is its whole array. -/
theorem blk9 (c : Dev nD) (t : Fin cfg0.N) : iblk m c 9 t = V m c main_arg9 := by
  funext y; blk_ext [iblk, idx t]

/-- The block of window 10 is its whole array. -/
theorem blk10 (c : Dev nD) (t : Fin cfg0.N) : iblk m c 10 t = V m c main_v9 := by
  funext y; blk_ext [iblk, idx t]

/-- The block of window 11 is its whole array. -/
theorem blk11 (c : Dev nD) (t : Fin cfg0.N) : iblk m c 11 t = V m c main_arg11 := by
  funext y; blk_ext [iblk, idx t]

/-- The block of window 12 is its whole array. -/
theorem blk12 (c : Dev nD) (t : Fin cfg0.N) : iblk m c 12 t = V m c main_v10 := by
  funext y; blk_ext [iblk, idx t]

/-- The block of window 0 at a point: its 4096 rows. -/
theorem blk0 (c : Dev nD) (t : Fin cfg0.N) (y : S4096x65.Idx) : iblk m c 0 t y = V m c main_v6 (Idealize.ShloMosaic.ix2 ⟨4096 * t.val + (y 0).val, by have h4 : t.val < 4 := lt_of_lt_of_eq t.isLt N_0; have h5 : (y 0).val < 4096 := (y 0).isLt; omega⟩ (y 1)) := by
  blk_ext [iblk, idx t]

/-- The block of window 1 at a point: its 4096 rows. -/
theorem blk1 (c : Dev nD) (t : Fin cfg0.N) (y : S4096x2.Idx) : iblk m c 1 t y = V m c main_v7 (Idealize.ShloMosaic.ix2 ⟨4096 * t.val + (y 0).val, by have h4 : t.val < 4 := lt_of_lt_of_eq t.isLt N_0; have h5 : (y 0).val < 4096 := (y 0).isLt; omega⟩ (y 1)) := by
  blk_ext [iblk, idx t]

/-- What the output block and the scratch arrays hold after each point. -/
theorem outs (c : Dev nD) : ∀ (n : ℕ) (hn : n < cfg0.N), outsAt0 m c n hn =
    (OUT (iblk m c 0 ⟨n, hn⟩) (iblk m c 1 ⟨n, hn⟩) (V m c main_cst) (V m c main_cst_0) (V m c main_arg9) (V m c main_v9) (V m c main_arg11) (V m c main_v10)
        (PB (V m c main_arg4) (V m c main_arg5) (V m c main_arg7)) (PC (V m c main_arg4) (V m c main_arg5) (V m c main_arg7))
        (QC (V m c main_arg6) (V m c main_arg7)) (BASE (V m c main_arg4) (V m c main_arg5) (V m c main_arg7) (V m c main_v8)),
      PB (V m c main_arg4) (V m c main_arg5) (V m c main_arg7), PC (V m c main_arg4) (V m c main_arg5) (V m c main_arg7),
      QC (V m c main_arg6) (V m c main_arg7), BASE (V m c main_arg4) (V m c main_arg5) (V m c main_arg7) (V m c main_v8))
  | 0, hn => by
    rw [outsAt0_zero, stAt0_A m c ⟨0, hn⟩ _ (Nat.zero_mod _), outA, scratch0, scratch1, scratch2, scratch3]
    simp only [blk2, blk3, blk4, blk5, blk6, blk7, blk8, blk9, blk10, blk11, blk12]
  | n + 1, hn => by
    have hN : n + 1 < 4 := lt_of_lt_of_eq hn N_0
    have h0 : ¬ (n + 1) % 4 = 0 := by omega
    rw [outsAt0_succ, stAt0_B m c ⟨n + 1, hn⟩ _ h0, outs c n (Nat.lt_of_succ_lt hn), outB]
    unfold sout0_B_0 sout0_B_1 sout0_B_2 sout0_B_3
    simp only [blk2, blk3, blk4, blk5, blk6, blk7, blk8, blk9, blk10, blk11, blk12]

/-- The grid point whose block holds a row. -/
theorem pt_lt (i : S16384x2.Idx) : pt13Of i < cfg0.N := by
  have h := (i 0).isLt
  have h1 : (i 1).val < 2 := (i 1).isLt
  have h2 : (i 0).val < 16384 := (i 0).isLt
  rw [show cfg0.N = 4 from N_0]
  unfold pt13Of run13Of
  omega

/-- The result array at an index: the block expression of the point holding the row. -/
theorem G_apply (c : Dev nD) (i : S16384x2.Idx) : G13 m c i =
    OUT (iblk m c 0 ⟨pt13Of i, pt_lt i⟩) (iblk m c 1 ⟨pt13Of i, pt_lt i⟩) (V m c main_cst) (V m c main_cst_0) (V m c main_arg9) (V m c main_v9) (V m c main_arg11) (V m c main_v10)
        (PB (V m c main_arg4) (V m c main_arg5) (V m c main_arg7)) (PC (V m c main_arg4) (V m c main_arg5) (V m c main_arg7))
        (QC (V m c main_arg6) (V m c main_arg7)) (BASE (V m c main_arg4) (V m c main_arg5) (V m c main_arg7) (V m c main_v8)) (loc13Of i) := by
  unfold G13
  rw [dif_pos (pt_lt i), ← outsAt0_sweep m c (pt13Of i) (pt_lt i), outs]
-- ==== Proof.Layers.lean ====
/- The last layers of a block read at an index, over arrays of real numbers. -/
module

public import proofs.«01_k».proof.Proof.Carried

@[expose] public section

set_option maxRecDepth 16384

noncomputable section
open Idealize.ShloMosaic Idealize.ShloMosaic.TcCoe Idealize.SL.Sem
namespace Cert.KernelIdeal.Ctr
open Cert.KernelIdeal Cert.KernelIdeal.Gen Cert.KernelIdeal.Value

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, as an extended real. -/
theorem coe_max (a b : ℝ) : ((max a b : ℝ) : EReal) = max (a : EReal) (b : EReal) :=
  EReal.coe_strictMono.monotone.map_max

/-- The array of extended reals that an array of reals is. -/
abbrev up {S : Shape} (f : S.Idx → ℝ) : S.Idx → EReal := fun i => (f i : EReal)

/-- The first hidden layer before its rectifier: base row, steps, bends and context rows. -/
def pre1 (X Z : S4096x65.Idx → ℝ) (O : S4096x20.Idx → ℝ) (P B : S65x200.Idx → ℝ) (C : S20x200.Idx → ℝ)
    (b : S1x200.Idx → ℝ) (a : Fin 4096) (j : Fin 200) : ℝ :=
  b (Idealize.ShloMosaic.ix2 0 j) + ∑ r : Fin 65, X (Idealize.ShloMosaic.ix2 a r) * P (Idealize.ShloMosaic.ix2 r j)
    + ∑ r : Fin 65, Z (Idealize.ShloMosaic.ix2 a r) * B (Idealize.ShloMosaic.ix2 r j)
    + ∑ r : Fin 20, O (Idealize.ShloMosaic.ix2 a r) * C (Idealize.ShloMosaic.ix2 r j)

/-- The second hidden layer, from the first before its rectifier. -/
def lay2 (h : Fin 200 → ℝ) (W : S200x80.Idx → ℝ) (b2 : Fin 80 → ℝ) (k : Fin 80) : ℝ :=
  max (∑ j : Fin 200, max (h j) 0 * W (Idealize.ShloMosaic.ix2 j k) + b2 k) 0

/-- The second hidden layer of a block, its low parts gone. -/
theorem h2_apply (X Z : S4096x65.Idx → ℝ) (O : S4096x20.Idx → ℝ) (P B : S65x200.Idx → ℝ) (C : S20x200.Idx → ℝ)
    (b : S1x200.Idx → ℝ) (W : S200x80.Idx → ℝ) (b2 : S1x80.Idx → ℝ) (y : S4096x80.Idx) :
    k0_pay274 (F := Ideal) (up X) (up Z) (up O) (up P) (fun _ => 0) (up B) (fun _ => 0) (up C) (fun _ => 0) (up b) (up W) (up b2) y
      = ((lay2 (pre1 X Z O P B C b (y 0)) W (fun k => b2 (Idealize.ShloMosaic.ix2 0 k)) (y 1) : ℝ) : EReal) := by
  unfold k0_pay274 lay2 pre1
  simp only [pointwise]
  simp only [coe_sum, coe_max, EReal.coe_add, EReal.coe_mul, EReal.coe_zero, up, mul_zero, Finset.sum_const_zero, add_zero, zero_add,
    dite_true, Nat.reduceEqDiff, dite_false]
  simp only [← coe_sum, ← EReal.coe_zero, ← coe_max, ← EReal.coe_add, ← EReal.coe_mul, ← EReal.coe_sub, sub_self, mul_zero, zero_mul,
    Finset.sum_const_zero, add_zero]
  rfl

/-- The output layer of a block, its low parts gone. -/
theorem out_apply (h : S4096x80.Idx → ℝ) (w : S80x2.Idx → ℝ) (b : Vec Ideal S1x2 .f32) (y : S4096x2.Idx) :
    k0_pay1 (F := Ideal) (up h) (fun _ => 0) (up w) (up w) (up w) b y
      = ((∑ k : Fin 80, h (Idealize.ShloMosaic.ix2 (y 0) k) * w (Idealize.ShloMosaic.ix2 k (y 1)) : ℝ) : EReal) + b (Idealize.ShloMosaic.ix2 0 (y 1)) := by
  unfold k0_pay1
  simp only [pointwise]
  simp only [up, dite_true, Nat.reduceEqDiff, dite_false, zero_mul, ← EReal.coe_sub, sub_self, EReal.coe_zero, mul_zero,
    Finset.sum_const_zero, add_zero, zero_add, coe_sum, EReal.coe_mul]
  rfl

/-- The high part of an array of reals is the array. -/
theorem hi_lo : (∀ P : S65x200.Idx → ℝ, k0_pay268 (F := Ideal) (up P) = up P ∧ k0_pay269 (F := Ideal) (up P) = fun _ => 0)
    ∧ (∀ P : S65x200.Idx → ℝ, k0_pay270 (F := Ideal) (up P) = up P ∧ k0_pay271 (F := Ideal) (up P) = fun _ => 0)
    ∧ (∀ P : S20x200.Idx → ℝ, k0_pay272 (F := Ideal) (up P) = up P ∧ k0_pay273 (F := Ideal) (up P) = fun _ => 0)
    ∧ (∀ P : S80x2.Idx → ℝ, k0_pay277 (F := Ideal) (up P) = up P ∧ k0_pay278 (F := Ideal) (up P) = up P) := by
  refine ⟨fun P => ⟨?_, ?_⟩, fun P => ⟨?_, ?_⟩, fun P => ⟨?_, ?_⟩, fun P => ⟨?_, ?_⟩⟩ <;> funext y
  all_goals simp only [k0_pay268, k0_pay269, k0_pay270, k0_pay271, k0_pay272, k0_pay273, k0_pay277, k0_pay278, pointwise, up, ← EReal.coe_sub, sub_self, EReal.coe_zero]

/-- A block's integers as reals. -/
def xr (x : Vec Ideal S4096x65 .i8) : S4096x65.Idx → ℝ := fun i => ((BitVec.toInt (x i) : ℤ) : ℝ)

/-- The bend's factor, `x (x − 1) / 2`. -/
def zr (x : Vec Ideal S4096x65 .i8) : S4096x65.Idx → ℝ := fun i => xr x i * (xr x i - 1) * (1 / 2)

theorem pay265_up (x : Vec Ideal S4096x65 .i8) : k0_pay265 (F := Ideal) x = up (xr x) := by
  funext y
  simp only [k0_pay265, pointwise]
  rfl

theorem pay266_up (x : Vec Ideal S4096x65 .i8) : k0_pay266 (F := Ideal) x = up (zr x) := by
  funext y
  unfold k0_pay266
  simp only [pointwise]
  rw [pay265_up, half_bf16]
  simp only [up, zr, EReal.coe_mul, EReal.coe_sub, EReal.coe_one]

/-- The hit of a context value: 1 where the field's value is the column's, else 0. -/
def orr (x : Vec Ideal S4096x2 .i8) : S4096x20.Idx → ℝ := fun i =>
  if ((BitVec.toInt (x (Idealize.ShloMosaic.ix2 (i 0) ⟨(i 1).val / 10, by have h : (i 1).val < 20 := (i 1).isLt; omega⟩)) : ℤ) : ℝ) = (((i 1).val % 10 : ℕ) : ℝ) then 1 else 0

/-- The block one point writes, over scratch arrays of reals. -/
theorem OUT_apply (x0 : Vec Ideal S4096x65 .i8) (x1 : Vec Ideal S4096x2 .i8) (x6 : Vec Ideal S2x20 .bf16) (x7 : Vec Ideal S1x20 .f32)
    (W : S200x80.Idx → ℝ) (b2 : S1x80.Idx → ℝ) (w : S80x2.Idx → ℝ) (b : Vec Ideal S1x2 .f32)
    (P B : S65x200.Idx → ℝ) (C : S20x200.Idx → ℝ) (b1 : S1x200.Idx → ℝ) (y : S4096x2.Idx)
    (ho : k0_pay267 (F := Ideal) x1 x6 x7 = up (orr x1)) :
    OUT x0 x1 x6 x7 (up W) (up b2) (up w) b (up P) (up B) (up C) (up b1) y
      = ((∑ k : Fin 80, lay2 (pre1 (xr x0) (zr x0) (orr x1) P B C b1 (y 0)) W (fun k => b2 (Idealize.ShloMosaic.ix2 0 k)) k * w (Idealize.ShloMosaic.ix2 k (y 1)) : ℝ) : EReal)
        + b (Idealize.ShloMosaic.ix2 0 (y 1)) := by
  unfold OUT
  rw [ho, pay265_up, pay266_up, (hi_lo.1 P).1, (hi_lo.1 P).2, (hi_lo.2.1 B).1, (hi_lo.2.1 B).2, (hi_lo.2.2.1 C).1, (hi_lo.2.2.1 C).2,
    (hi_lo.2.2.2 w).1, (hi_lo.2.2.2 w).2]
  have e1 : k0_pay275 (F := Ideal) (up (xr x0)) (up (zr x0)) (up (orr x1)) (up P) (fun _ => 0) (up B) (fun _ => 0) (up C) (fun _ => 0) (up b1) (up W) (up b2)
      = up fun i : S4096x80.Idx => lay2 (pre1 (xr x0) (zr x0) (orr x1) P B C b1 (i 0)) W (fun k => b2 (Idealize.ShloMosaic.ix2 0 k)) (i 1) := by
    funext i
    simp only [k0_pay275, pointwise]
    exact h2_apply ..
  have e2 : k0_pay276 (F := Ideal) (up (xr x0)) (up (zr x0)) (up (orr x1)) (up P) (fun _ => 0) (up B) (fun _ => 0) (up C) (fun _ => 0) (up b1) (up W) (up b2)
      = fun _ => 0 := by
    funext i
    unfold k0_pay276
    simp only [pointwise]
    rw [e1, h2_apply]
    simp only [up, ← EReal.coe_sub, sub_self, EReal.coe_zero]
  rw [e1, e2, out_apply]
  rfl
-- ==== Proof.Inputs.lean ====
/- The arrays that the host code gives the launch, read at an index. -/
module

public import proofs.«01_k».proof.Proof.Layers
public import Idealize.ShloMosaic.Lib.StableHlo.RunRead

@[expose] public section

set_option maxRecDepth 16384

noncomputable section
open Idealize.ShloMosaic Idealize.ShloMosaic.TcCoe Idealize.SL.Sem
namespace Cert.KernelIdeal.Ctr
open Cert.KernelIdeal Cert.KernelIdeal.Gen Cert.KernelIdeal.Value

/-- A rank-2 array of words at two numbers, as a number. -/
def u2 {n k : ℕ} (x : (⟨2, ![n, k]⟩ : Shape).Idx → BitVec 32) (a b : ℕ) : ℕ :=
  if h : a < n ∧ b < k then (x (Idealize.ShloMosaic.ix2 ⟨a, h.1⟩ ⟨b, h.2⟩)).toNat else 0

/-- A rank-3 array of words at three numbers, as a number. -/
def u3 {n k l : ℕ} (x : (⟨3, ![n, k, l]⟩ : Shape).Idx → BitVec 32) (a b c : ℕ) : ℕ :=
  if h : a < n ∧ b < k ∧ c < l then (x (Idealize.ShloMosaic.ix3 ⟨a, h.1⟩ ⟨b, h.2.1⟩ ⟨c, h.2.2⟩)).toNat else 0

theorem u2_ix {n k : ℕ} (x : (⟨2, ![n, k]⟩ : Shape).Idx → BitVec 32) (a b : ℕ) (ha : a < n) (hb : b < k) :
    (x (Idealize.ShloMosaic.ix2 ⟨a, ha⟩ ⟨b, hb⟩)).toNat = u2 x a b := by
  unfold u2; rw [dif_pos ⟨ha, hb⟩]

theorem u3_ix {n k l : ℕ} (x : (⟨3, ![n, k, l]⟩ : Shape).Idx → BitVec 32) (a b c : ℕ) (ha : a < n) (hb : b < k) (hc : c < l) :
    (x (Idealize.ShloMosaic.ix3 ⟨a, ha⟩ ⟨b, hb⟩ ⟨c, hc⟩)).toNat = u3 x a b c := by
  unfold u3; rw [dif_pos ⟨ha, hb, hc⟩]

/-- The value of row `r`'s segment in sample `n`: users, then the behaviours field by field, then the adverts. -/
def vals (u : (⟨2, ![16384, 2]⟩ : Shape).Idx → BitVec 32) (be : (⟨3, ![16384, 20, 3]⟩ : Shape).Idx → BitVec 32)
    (ad : (⟨3, ![16384, 1, 3]⟩ : Shape).Idx → BitVec 32) (n r : ℕ) : ℕ :=
  if r < 2 then u2 u n r else if r < 62 then u3 be n ((r - 2) % 20) ((r - 2) / 20) else u3 ad n 0 (r - 62)

/-- A small word keeps its value when cut to eight bits. -/
theorem cut8 (w : BitVec 32) (h : w.toNat < 10) : BitVec.toInt (w.setWidth 8) = (w.toNat : ℤ) := by
  rw [BitVec.toInt_eq_toNat_of_lt (by rw [BitVec.toNat_setWidth]; omega), BitVec.toNat_setWidth, Nat.mod_eq_of_lt (by omega)]

section
variable (m : (ℓ : Loc nD τ sig) → Buf (Elt Ideal) ℓ)

theorem mc_word : ∀ (k : Fin 2) (c : Fin 20), lit0 (S2x20.rowMajor (Idealize.ShloMosaic.ix2 k c)) = if c.val / 10 = k.val then 0x3F80#16 else 0x0000#16 := by
  decide +kernel

/-- The f32 words of the ten digits. -/
def digit : Fin 10 → BitVec 32 :=
  ![0x00000000#32, 0x3F800000#32, 0x40000000#32, 0x40400000#32, 0x40800000#32, 0x40A00000#32, 0x40C00000#32, 0x40E00000#32, 0x41000000#32, 0x41100000#32]

theorem cvc_word : ∀ (c : Fin 20), lit1 (S1x20.rowMajor (Idealize.ShloMosaic.ix2 0 c)) = digit ⟨c.val % 10, Nat.mod_lt _ (by decide)⟩ := by
  decide +kernel

theorem digit_f32 (v : Fin 10) : Ideal.ofBits .f32 (digit v) = (((v.val : ℕ) : ℝ) : EReal) := by
  unfold digit
  fin_cases v <;> simp [Ideal.ofBits, Ideal.ieee, -EReal.coe_mul] <;> norm_num

theorem cst_V (c : Dev nD) : (V m c main_cst : Vec Ideal S2x20 .bf16) = fun i => Ideal.ofBits .bf16 (lit0 (S2x20.rowMajor i)) := by
  entry_read
  rfl

theorem cst0_V (c : Dev nD) : (V m c main_cst_0 : Vec Ideal S1x20 .f32) = fun i => Ideal.ofBits .f32 (lit1 (S1x20.rowMajor i)) := by
  entry_read
  rfl

/-- A bias turned into a row. -/
theorem v8_V (c : Dev nD) (a : Fin 1) (b : Fin 200) : (V m c main_v8 : Vec Ideal S1x200 .f32) (Idealize.ShloMosaic.ix2 a b) = (m ((c : Thread nD τ).loc main_arg8) : Vec Ideal S200 .f32) (Idealize.ShloMosaic.ix1 b) := by
  have e : (V m c main_v8 : Vec Ideal S1x200 .f32) = shapeCast S1x200 (m ((c : Thread nD τ).loc main_arg8) : Vec Ideal S200 .f32) shapeCasts_S200_S1x200 := by
    entry_read; rfl
  rw [e]
  simp only [pointwise]

theorem v9_V (c : Dev nD) (a : Fin 1) (b : Fin 80) : (V m c main_v9 : Vec Ideal S1x80 .f32) (Idealize.ShloMosaic.ix2 a b) = (m ((c : Thread nD τ).loc main_arg10) : Vec Ideal S80 .f32) (Idealize.ShloMosaic.ix1 b) := by
  have e : (V m c main_v9 : Vec Ideal S1x80 .f32) = shapeCast S1x80 (m ((c : Thread nD τ).loc main_arg10) : Vec Ideal S80 .f32) shapeCasts_S80_S1x80 := by
    entry_read; rfl
  rw [e]
  simp only [pointwise]

theorem v10_V (c : Dev nD) (a : Fin 1) (b : Fin 2) : (V m c main_v10 : Vec Ideal S1x2 .f32) (Idealize.ShloMosaic.ix2 a b) = (m ((c : Thread nD τ).loc main_arg12) : Vec Ideal S2 .f32) (Idealize.ShloMosaic.ix1 b) := by
  have e : (V m c main_v10 : Vec Ideal S1x2 .f32) = shapeCast S1x2 (m ((c : Thread nD τ).loc main_arg12) : Vec Ideal S2 .f32) shapeCasts_S2_S1x2 := by
    entry_read; rfl
  rw [e]
  simp only [pointwise]

/-- The context values, cut to eight bits. -/
theorem v7_V (c : Dev nD) (hx : ∀ i, BitVec.toNat ((m ((c : Thread nD τ).loc main_arg3) : Vec Ideal S16384x2 .i32) i) < 10) (a : Fin 16384) (b : Fin 2) :
    BitVec.toInt ((V m c main_v7 : Vec Ideal S16384x2 .i8) (Idealize.ShloMosaic.ix2 a b)) = (u2 (m ((c : Thread nD τ).loc main_arg3) : Vec Ideal S16384x2 .i32) a b : ℤ) := by
  have e : (V m c main_v7 : Vec Ideal S16384x2 .i8) = trunci 8 (m ((c : Thread nD τ).loc main_arg3) : Vec Ideal S16384x2 .i32) natLt_8_32 := by
    entry_read; rfl
  rw [e]
  simp only [pointwise]
  rw [cut8 _ (hx _), ← u2_ix _ _ _ a.isLt b.isLt]

/-- The 65 columns of values, each cut to eight bits. -/
theorem v6_V (c : Dev nD) (hu : ∀ i, BitVec.toNat ((m ((c : Thread nD τ).loc main_arg0) : Vec Ideal S16384x2 .i32) i) < 10)
    (hb : ∀ i, BitVec.toNat ((m ((c : Thread nD τ).loc main_arg1) : Vec Ideal S16384x20x3 .i32) i) < 10)
    (ha : ∀ i, BitVec.toNat ((m ((c : Thread nD τ).loc main_arg2) : Vec Ideal S16384x1x3 .i32) i) < 10) (a : Fin 16384) (b : Fin 65) :
    BitVec.toInt ((V m c main_v6 : Vec Ideal S16384x65 .i8) (Idealize.ShloMosaic.ix2 a b))
      = (vals (m ((c : Thread nD τ).loc main_arg0) : Vec Ideal S16384x2 .i32) (m ((c : Thread nD τ).loc main_arg1) : Vec Ideal S16384x20x3 .i32)
          (m ((c : Thread nD τ).loc main_arg2) : Vec Ideal S16384x1x3 .i32) a b : ℤ) := by
  have e : (V m c main_v6 : Vec Ideal S16384x65 .i8) = concatenate S16384x65 1
      [⟨S16384x2, (trunci 8 (m ((c : Thread nD τ).loc main_arg0) : Vec Ideal S16384x2 .i32) natLt_8_32 : Vec Ideal S16384x2 .i8)⟩,
        ⟨S16384x60, (shapeCast S16384x60 (transpose S16384x3x20 [0, 2, 1] (trunci 8 (m ((c : Thread nD τ).loc main_arg1) : Vec Ideal S16384x20x3 .i32) natLt_8_32 : Vec Ideal S16384x20x3 .i8) transposes_S16384x20x3_S16384x3x20_0_2_1 : Vec Ideal S16384x3x20 .i8) shapeCasts_S16384x3x20_S16384x60 : Vec Ideal S16384x60 .i8)⟩,
        ⟨S16384x3, (shapeCast S16384x3 (trunci 8 (m ((c : Thread nD τ).loc main_arg2) : Vec Ideal S16384x1x3 .i32) natLt_8_32 : Vec Ideal S16384x1x3 .i8) shapeCasts_S16384x1x3_S16384x3 : Vec Ideal S16384x3 .i8)⟩]
      concatenates_S16384x2_S16384x60_S16384x3_S16384x65_d1 := by
    unfold V
    after_reads_simp
    have e0 : (StableHlo.upto hostOps0 (fun b => m (c, b)) 8 (Proc.tc.devRef main_v0) : Vec Ideal S16384x2 .i8) = trunci 8 (m ((c : Thread nD τ).loc main_arg0) : Vec Ideal S16384x2 .i32) natLt_8_32 := by
      after_reads_simp
    have e1 : (StableHlo.upto hostOps0 (fun b => m (c, b)) 8 (Proc.tc.devRef main_v3) : Vec Ideal S16384x60 .i8) = shapeCast S16384x60 (transpose S16384x3x20 [0, 2, 1] (trunci 8 (m ((c : Thread nD τ).loc main_arg1) : Vec Ideal S16384x20x3 .i32) natLt_8_32 : Vec Ideal S16384x20x3 .i8) transposes_S16384x20x3_S16384x3x20_0_2_1 : Vec Ideal S16384x3x20 .i8) shapeCasts_S16384x3x20_S16384x60 := by
      after_reads_simp
      rfl
    have e2 : (StableHlo.upto hostOps0 (fun b => m (c, b)) 8 (Proc.tc.devRef main_v5) : Vec Ideal S16384x3 .i8) = shapeCast S16384x3 (trunci 8 (m ((c : Thread nD τ).loc main_arg2) : Vec Ideal S16384x1x3 .i32) natLt_8_32 : Vec Ideal S16384x1x3 .i8) shapeCasts_S16384x1x3_S16384x3 := by
      after_reads_simp
      rfl
    rw [← e0, ← e1, ← e2]
    rfl
  rw [e]
  simp only [pointwise]
  have hbl := b.isLt
  unfold vals
  by_cases h1 : b.val < 2
  · rw [dif_pos h1, if_pos h1, cut8 _ (hu _), ← u2_ix _ _ _ a.isLt h1]
    rfl
  · rw [dif_neg h1, if_neg h1]
    by_cases h2 : b.val < 62
    · rw [dif_pos (show b.val - (![16384, 2] : Fin 2 → ℕ) 1 < 60 from (show b.val - 2 < 60 by omega)), if_pos h2, cut8 _ (hb _), ← u3_ix _ _ _ _ a.isLt (by omega) (by omega)]
      rfl
    · rw [dif_neg (show ¬ b.val - (![16384, 2] : Fin 2 → ℕ) 1 < 60 from (show ¬ b.val - 2 < 60 by omega)), if_neg h2, show b.val - 62 = b.val - 2 - 60 by omega, cut8 _ (ha _), ← u3_ix _ _ _ _ a.isLt (by omega) (by omega)]
      rfl

theorem mc_V (c : Dev nD) (k : Fin 2) (j : Fin 20) :
    ((V m c main_cst : Vec Ideal S2x20 .bf16) (Idealize.ShloMosaic.ix2 k j) : EReal) = (((if j.val / 10 = k.val then 1 else 0 : ℝ)) : EReal) := by
  rw [cst_V]
  show Ideal.ofBits .bf16 (lit0 (S2x20.rowMajor (Idealize.ShloMosaic.ix2 k j))) = _
  rw [mc_word]
  split_ifs
  · exact Ideal.ofBits_one_bf16
  · exact Ideal.ofBits_zero_bf16

theorem cvc_V (c : Dev nD) (j : Fin 20) :
    ((V m c main_cst_0 : Vec Ideal S1x20 .f32) (Idealize.ShloMosaic.ix2 0 j) : EReal) = ((((j.val % 10 : ℕ)) : ℝ) : EReal) := by
  rw [cst0_V]
  show Ideal.ofBits .f32 (lit1 (S1x20.rowMajor (Idealize.ShloMosaic.ix2 0 j))) = _
  rw [cvc_word, digit_f32]

end

/-- A comparison's bit as a real. -/
theorem bit_real (p : Prop) [Decidable p] : (((BitVec.toInt (BitVec.setWidth 32 (BitVec.ofBool (decide p))) : ℤ) : ℝ) : EReal) = (((if p then 1 else 0 : ℝ)) : EReal) := by
  by_cases h : p <;> simp [h]

/-- The hits: the product with the columns' marks picks the field's value, which is compared with the column's digit. -/
theorem pay267_up (x1 : Vec Ideal S4096x2 .i8) (x6 : Vec Ideal S2x20 .bf16) (x7 : Vec Ideal S1x20 .f32)
    (h6 : ∀ (k : Fin 2) (j : Fin 20), (x6 (Idealize.ShloMosaic.ix2 k j) : EReal) = (((if j.val / 10 = k.val then 1 else 0 : ℝ)) : EReal))
    (h7 : ∀ j : Fin 20, (x7 (Idealize.ShloMosaic.ix2 0 j) : EReal) = ((((j.val % 10 : ℕ)) : ℝ) : EReal)) : k0_pay267 (F := Ideal) x1 x6 x7 = up (orr x1) := by
  have key : ∀ (a : Fin 4096) (j : Fin 20), k0_pay267 (F := Ideal) x1 x6 x7 (Idealize.ShloMosaic.ix2 a j) = up (orr x1) (Idealize.ShloMosaic.ix2 a j) := by
    intro a j
    have hj := j.isLt
    unfold k0_pay267
    simp only [pointwise]
    refine (bit_real _).trans ?_
    show (((if _ then 1 else 0 : ℝ)) : EReal) = (((if _ then 1 else 0 : ℝ)) : EReal)
    congr 1
    refine if_congr ?_ rfl rfl
    rw [Fin.sum_univ_two, h6, h6]
    show (0 : EReal) + ((((BitVec.toInt (x1 (Idealize.ShloMosaic.ix2 a 0)) : ℤ) : ℝ) : EReal) * (((if j.val / 10 = 0 then 1 else 0 : ℝ)) : EReal)
      + (((BitVec.toInt (x1 (Idealize.ShloMosaic.ix2 a 1)) : ℤ) : ℝ) : EReal) * (((if j.val / 10 = 1 then 1 else 0 : ℝ)) : EReal)) = x7 (Idealize.ShloMosaic.ix2 0 j)
      ↔ ((BitVec.toInt (x1 (Idealize.ShloMosaic.ix2 a ⟨j.val / 10, by omega⟩)) : ℤ) : ℝ) = ((j.val % 10 : ℕ) : ℝ)
    rw [h7, zero_add, ← EReal.coe_mul, ← EReal.coe_mul, ← EReal.coe_add, EReal.coe_eq_coe_iff]
    have hq : j.val / 10 = 0 ∨ j.val / 10 = 1 := by omega
    rcases hq with hq | hq
    · have ei : (⟨j.val / 10, by omega⟩ : Fin 2) = 0 := Fin.ext hq
      rw [ei, hq]; simp
    · have ei : (⟨j.val / 10, by omega⟩ : Fin 2) = 1 := Fin.ext hq
      rw [ei, hq]; simp
  funext y
  have ey : y = Idealize.ShloMosaic.ix2 (y 0) (y 1) := by
    funext i; fin_cases i <;> rfl
  rw [ey]
  exact key _ _

end Cert.KernelIdeal.Ctr

end
-- ==== Proof.Decode.lean ====
/- What the precondition says: small integers, finite floats. -/
module

public import proofs.«01_k».proof.Proof.Inputs
public import proofs.«01_k».proof.Proof.Gen.Pre_in_range
public import Idealize.ShloMosaic.Lib.ReduceAll
public import Idealize.ShloMosaic.Lib.StableHlo.Predicate

@[expose] public section

set_option maxRecDepth 16384

noncomputable section
open Idealize.ShloMosaic Idealize.SL.Sem
namespace Cert.KernelIdeal.Ctr

/-- A word that is at least 0 and below a small bound, as a signed word, is below it as a number. -/
theorem word_within (w hi : BitVec 32) (hhi : hi.toNat < 2 ^ 31) (h1 : IntOp.cmpi .sge w 0#32 = 1#1) (h2 : IntOp.cmpi .slt w hi = 1#1) :
    w.toNat < hi.toNat := by
  have e1 : (0#32 : BitVec 32).toInt ≤ w.toInt := by
    simpa [IntOp.cmpi, BitVec.sle, StableHlo.Predicate.ofBool_eq_one_iff] using h1
  have e2 : w.toInt < hi.toInt := by
    simpa [IntOp.cmpi, BitVec.slt, StableHlo.Predicate.ofBool_eq_one_iff] using h2
  rw [StableHlo.Predicate.toInt_eq_toNat_of_lt hhi] at e2
  have e0 : (0#32 : BitVec 32).toInt = 0 := by decide
  rw [e0] at e1
  have e3 := BitVec.toInt_eq_toNat_cond w
  have e4 := w.isLt
  split at e3 <;> omega

/-- An extended real whose absolute value is below the infinity's word is a real. -/
theorem real_of_abs (x : EReal) (h : Ideal.cmp .olt (max x (-x)) (Ideal.ofBits .f32 0x7F800000#32) = 1#1) : x = ((x.toReal : ℝ) : EReal) := by
  have ht : Ideal.ofBits .f32 0x7F800000#32 = (⊤ : EReal) := by
    simp [Ideal.ofBits, Ideal.ieee]
  rw [ht] at h
  have h' : max x (-x) < ⊤ := by
    simpa [Ideal.cmp, StableHlo.Predicate.ofBool_eq_one_iff] using h
  refine (EReal.coe_toReal ?_ ?_).symm
  · rintro rfl; simp at h'
  · rintro rfl; simp at h'

section
variable {s t : Shape} {axes : List (Fin s.rank)} [Subsingleton t.Idx] (h : s.ReducesTo axes t) (hu : 0 < (⟨0, ![]⟩ : Shape).numel) (j : t.Idx)
  (hb : (⟨0, ![]⟩ : Shape).BroadcastsInDim s (![] : Fin 0 → Fin s.rank))

theorem all_within (x : IVec s 32) (hi : BitVec 32) (hhi : hi.toNat < 2 ^ 31)
    (e : Host.reduce IntOp.andi (andi (cmpi .sge x (broadcastInDim s ![] hb (constantI ⟨0, ![]⟩ 32 0#32))) (cmpi .slt x (broadcastInDim s ![] hb (constantI ⟨0, ![]⟩ 32 hi))))
      (constantI ⟨0, ![]⟩ 1 1#1) h hu j = 1#1) (i : s.Idx) : (x i).toNat < hi.toNat := by
  have e1 := Host.reduce_andi_all _ _ h hu j e i
  obtain ⟨e2, e3⟩ := IntOp.andi_eq_one.1 e1
  exact word_within _ _ hhi e2 e3

theorem all_finite (x : FVec Ideal s .f32)
    (e : Host.reduce IntOp.andi (cmpf .olt (Host.absf x) (broadcastInDim s ![] hb (constant (F := Ideal) ⟨0, ![]⟩ .f32 0x7F800000#32)))
      (constantI ⟨0, ![]⟩ 1 1#1) h hu j = 1#1) : ∃ f : s.Idx → ℝ, x = up f :=
  ⟨fun i => EReal.toReal (x i), funext fun i => real_of_abs (x i) (Host.reduce_andi_all _ _ h hu j e i)⟩

end

theorem andi_at {s : Shape} (x y : IVec s 1) (j : s.Idx) : andi x y j = 1#1 ↔ x j = 1#1 ∧ y j = 1#1 := IntOp.andi_eq_one

instance : Subsingleton (Cert.Pre_in_range.S_).Idx := ⟨fun a b => funext fun i => i.elim0⟩

open Cert.Pre_in_range in
/-- What the precondition states of the arguments. -/
theorem decode (a0 : IVec S16384x2 32) (a1 : IVec S16384x20x3 32) (a2 : IVec S16384x1x3 32) (a3 : IVec S16384x2 32)
    (a4 : FVec Ideal S12x88 .f32) (a5 : FVec Ideal S31x88 .f32) (a6 : FVec Ideal S20x88 .f32) (a7 : FVec Ideal S5896x200 .f32)
    (a8 : FVec Ideal S200 .f32) (a9 : FVec Ideal S200x80 .f32) (a10 : FVec Ideal S80 .f32) (a11 : FVec Ideal S80x2 .f32) (a12 : FVec Ideal S2 .f32)
    (h : Cert.Pre_in_range.fn (F := Ideal) a0 a1 a2 a3 a4 a5 a6 a7 a8 a9 a10 a11 a12 = fun _ => 1#1) :
    ((∀ i, (a0 i).toNat < 2) ∧ (∀ i, (a1 i).toNat < 3) ∧ (∀ i, (a2 i).toNat < 3) ∧ (∀ i, (a3 i).toNat < 10))
      ∧ (∃ f : S12x88.Idx → ℝ, a4 = up f) ∧ (∃ f : S31x88.Idx → ℝ, a5 = up f) ∧ (∃ f : S20x88.Idx → ℝ, a6 = up f)
      ∧ (∃ f : S5896x200.Idx → ℝ, a7 = up f) ∧ (∃ f : S200.Idx → ℝ, a8 = up f) ∧ (∃ f : S200x80.Idx → ℝ, a9 = up f)
      ∧ (∃ f : S80.Idx → ℝ, a10 = up f) ∧ (∃ f : S80x2.Idx → ℝ, a11 = up f) := by
  have h0 := congrFun h (fun i => i.elim0)
  simp only [Cert.Pre_in_range.fn, fn_part1, fn_part2, fn_part3, andi_at] at h0
  obtain ⟨⟨⟨⟨⟨⟨⟨⟨⟨⟨⟨e0, e1⟩, e2⟩, e3⟩, e4⟩, e5⟩, e6⟩, e7⟩, e8⟩, e9⟩, e10⟩, e11⟩ := h0
  exact ⟨⟨all_within _ _ _ _ a0 2#32 (by decide) e0, all_within _ _ _ _ a1 3#32 (by decide) e1, all_within _ _ _ _ a2 3#32 (by decide) e2,
    all_within _ _ _ _ a3 10#32 (by decide) e3⟩, all_finite _ _ _ _ _ e4, all_finite _ _ _ _ _ e5, all_finite _ _ _ _ _ e6, all_finite _ _ _ _ _ e7,
    all_finite _ _ _ _ _ e8, all_finite _ _ _ _ _ e9, all_finite _ _ _ _ _ e10, all_finite _ _ _ _ _ e11⟩

end Cert.KernelIdeal.Ctr

end
-- ==== Proof.Equation.lean ====
/- The equation of the two first layers over the reals: a segment's values by differences, and the columns regrouped by segment. -/
module

public import proofs.«01_k».proof.Proof.Decode

@[expose] public section

set_option maxRecDepth 16384

noncomputable section
open Idealize.ShloMosaic Idealize.SL.Sem
open scoped BigOperators
namespace Cert.KernelIdeal.Ctr

/-- A rank-two array of reals read at two natural numbers, zero outside it. -/
def rat {n k : ℕ} (x : (⟨2, ![n, k]⟩ : Shape).Idx → ℝ) (a b : ℕ) : ℝ :=
  if h : a < n ∧ b < k then x (Idealize.ShloMosaic.ix2 ⟨a, h.1⟩ ⟨b, h.2⟩) else 0

theorem at2_up {n k : ℕ} (x : (⟨2, ![n, k]⟩ : Shape).Idx → ℝ) (a b : ℕ) : at2 (up x) a b = (rat x a b : EReal) := by
  unfold at2 rat
  split_ifs <;> rfl

theorem rat_ix {n k : ℕ} (x : (⟨2, ![n, k]⟩ : Shape).Idx → ℝ) (a b : ℕ) (ha : a < n) (hb : b < k) :
    x (Idealize.ShloMosaic.ix2 ⟨a, ha⟩ ⟨b, hb⟩) = rat x a b := by
  unfold rat; rw [dif_pos ⟨ha, hb⟩]

/-- Row `o + v` of a table against the 88 rows of the weights from row `p` on, at column `j`. -/
def RQ {n k m l : ℕ} (x : (⟨2, ![n, k]⟩ : Shape).Idx → ℝ) (w : (⟨2, ![m, l]⟩ : Shape).Idx → ℝ) (o p v j : ℕ) : ℝ :=
  ∑ e : Fin 88, rat x (o + v) e.val * rat w (p + e.val) j

theorem Q_up {n k m l : ℕ} (x : (⟨2, ![n, k]⟩ : Shape).Idx → ℝ) (w : (⟨2, ![m, l]⟩ : Shape).Idx → ℝ) (o p v j : ℕ) :
    Q (up x) (up w) o p v j = (RQ x w o p v j : EReal) := by
  unfold Q RQ
  rw [coe_sum]
  exact Finset.sum_congr rfl fun e _ => by rw [at2_up, at2_up, EReal.coe_mul]

section
variable (tu : S12x88.Idx → ℝ) (ta : S31x88.Idx → ℝ) (tc : S20x88.Idx → ℝ) (W : S5896x200.Idx → ℝ) (b1 : S1x200.Idx → ℝ)

/-- What row `r`'s segment adds to hidden column `j` when its value is `v`. -/
def rq (r v j : ℕ) : ℝ :=
  if r < 2 then RQ tu W (2 * r) (88 * r) v j else RQ ta W (adOff (fld r)) (88 * seg r) v j

theorem qr_up (r v j : ℕ) : qr (up tu) (up ta) (up W) r v j = (rq tu ta W r v j : EReal) := by
  unfold qr rq
  split_ifs <;> exact Q_up _ _ _ _ _ _

def rPB : S65x200.Idx → ℝ := fun y => rq tu ta W (y 0).val 1 (y 1).val - rq tu ta W (y 0).val 0 (y 1).val

def rPC : S65x200.Idx → ℝ := fun y =>
  if (y 0).val < 2 then 0
  else rq tu ta W (y 0).val 2 (y 1).val - 2 * rq tu ta W (y 0).val 1 (y 1).val + rq tu ta W (y 0).val 0 (y 1).val

def rQC : S20x200.Idx → ℝ := fun y => RQ tc W (10 * ((y 0).val / 10)) (5720 + 88 * ((y 0).val / 10)) ((y 0).val % 10) (y 1).val

def rBASE : S1x200.Idx → ℝ := fun y => rat b1 0 (y 1).val + ∑ r ∈ Finset.range 65, rq tu ta W (ord r) 0 (y 1).val

theorem PB_up : PB (up tu) (up ta) (up W) = up (rPB tu ta W) := by
  funext y
  unfold PB rPB up
  rw [qr_up, qr_up, EReal.coe_sub]

theorem PC_up : PC (up tu) (up ta) (up W) = up (rPC tu ta W) := by
  funext y
  show PC (up tu) (up ta) (up W) y = ((rPC tu ta W y : ℝ) : EReal)
  unfold PC rPC
  split_ifs
  · exact EReal.coe_zero.symm
  · rw [qr_up, qr_up, qr_up, EReal.coe_add, EReal.coe_sub, EReal.coe_mul]

theorem QC_up : QC (up tc) (up W) = up (rQC tc W) := by
  funext y
  unfold QC rQC up
  exact Q_up _ _ _ _ _ _

theorem BASE_up : BASE (up tu) (up ta) (up W) (up b1) = up (rBASE tu ta W b1) := by
  funext y
  unfold BASE baseTo rBASE up
  rw [EReal.coe_add, coe_sum, ← at2_up]
  refine congrArg _ (Finset.sum_congr rfl fun r _ => qr_up _ _ _ _ _ _)

end

/-- A sum over the places of a table, row by row. -/
theorem sum_rows (m k : ℕ) (f : ℕ → ℕ → ℝ) : ∑ c : Fin (m * k), f (c.val / k) (c.val % k) = ∑ s : Fin m, ∑ e : Fin k, f s.val e.val := by
  rw [← Fintype.sum_prod_type', ← finProdFinEquiv.sum_comp]
  refine Finset.sum_congr rfl fun p _ => ?_
  obtain ⟨s, e⟩ := p
  have hk : 0 < k := lt_of_le_of_lt (Nat.zero_le _) e.isLt
  have h : (finProdFinEquiv (s, e)).val = e.val + k * s.val := rfl
  rw [h, Nat.add_mul_div_left _ _ hk, Nat.div_eq_of_lt e.isLt, Nat.add_mul_mod_self_left, Nat.mod_eq_of_lt e.isLt, zero_add]

/-- A sum over 65 places, the places in another order. -/
theorem sum_order (p : ℕ → ℕ) (h : (Finset.range 65).image p = Finset.range 65) (f : ℕ → ℝ) :
    ∑ k ∈ Finset.range 65, f (p k) = ∑ k ∈ Finset.range 65, f k := by
  have hi : Set.InjOn p (Finset.range 65 : Finset ℕ) := Finset.card_image_iff.1 (by rw [h])
  conv_rhs => rw [← h]
  rw [Finset.sum_image hi]

theorem ord_image : (Finset.range 65).image ord = Finset.range 65 := by decide +kernel

theorem seg_image : (Finset.range 65).image seg = Finset.range 65 := by decide +kernel

/-- A function at 0, 1 or 2 from its value at 0, its first and its second difference. -/
theorem newton (g : ℕ → ℝ) (v : ℕ) (hv : v < 3) : g 0 + v * (g 1 - g 0) + (v : ℝ) * (v - 1) * (1 / 2) * (g 2 - 2 * g 1 + g 0) = g v := by
  interval_cases v <;> norm_num <;> ring

/-- A function at 0 or 1 from its value at 0 and its first difference. -/
theorem newton2 (g : ℕ → ℝ) (v : ℕ) (hv : v < 2) : g 0 + v * (g 1 - g 0) + (v : ℝ) * (v - 1) * (1 / 2) * 0 = g v := by
  interval_cases v <;> norm_num

/-- The hits of two values pick, in each field, the row of the value. -/
theorem hits (c : ℕ → ℕ) (hc : ∀ f < 2, c f < 10) (g : ℕ → ℕ → ℝ) :
    ∑ k : Fin 20, (if ((c (k.val / 10) : ℕ) : ℝ) = ((k.val % 10 : ℕ) : ℝ) then (1 : ℝ) else 0) * g (k.val / 10) (k.val % 10) = g 0 (c 0) + g 1 (c 1) := by
  have e := sum_rows 2 10 (fun f v => (if ((c f : ℕ) : ℝ) = (v : ℝ) then (1 : ℝ) else 0) * g f v)
  refine e.trans ?_
  have row : ∀ f < 2, ∑ v : Fin 10, (if ((c f : ℕ) : ℝ) = ((v.val : ℕ) : ℝ) then (1 : ℝ) else 0) * g f v.val = g f (c f) := by
    intro f hf
    rw [Finset.sum_eq_single (⟨c f, hc f hf⟩ : Fin 10)]
    · rw [if_pos rfl, one_mul]
    · intro v _ hv
      rw [if_neg, zero_mul]
      intro h
      exact hv (Fin.ext (Nat.cast_injective h).symm)
    · intro h; exact absurd (Finset.mem_univ _) h
  rw [Fin.sum_univ_two]
  exact congrArg₂ (· + ·) (row 0 (by decide)) (row 1 (by decide))

section
variable (tu : S12x88.Idx → ℝ) (ta : S31x88.Idx → ℝ) (tc : S20x88.Idx → ℝ) (W : S5896x200.Idx → ℝ)
  (u : (⟨2, ![16384, 2]⟩ : Shape).Idx → BitVec 32) (be : (⟨3, ![16384, 20, 3]⟩ : Shape).Idx → BitVec 32)
  (ad : (⟨3, ![16384, 1, 3]⟩ : Shape).Idx → BitVec 32) (cx : (⟨2, ![16384, 2]⟩ : Shape).Idx → BitVec 32)

/-- Component `e` of the embedding in segment `s` of sample `n`. -/
def emb (n s e : ℕ) : ℝ :=
  if s < 2 then rat tu (2 * s + u2 u n s) e
  else if s < 62 then rat ta (adOff ((s - 2) % 3) + u3 be n ((s - 2) / 3) ((s - 2) % 3)) e
  else if s < 65 then rat ta (adOff (s - 62) + u3 ad n 0 (s - 62)) e
  else rat tc (10 * (s - 65) + u2 cx n (s - 65)) e

/-- The embedding against the first layer's weights. -/
def proj (n j : ℕ) : ℝ := ∑ c : Fin 5896, emb tu ta tc u be ad cx n (c.val / 88) (c.val % 88) * rat W c.val j

/-- The part of one segment in the first layer. -/
def part (n j s : ℕ) : ℝ := ∑ e : Fin 88, emb tu ta tc u be ad cx n s e.val * rat W (88 * s + e.val) j

theorem proj_parts (n j : ℕ) : proj tu ta tc W u be ad cx n j
    = ∑ s ∈ Finset.range 65, part tu ta tc W u be ad cx n j s + part tu ta tc W u be ad cx n j 65 + part tu ta tc W u be ad cx n j 66 := by
  have e := sum_rows 67 88 (fun s e => emb tu ta tc u be ad cx n s e * rat W (88 * s + e) j)
  have e1 : proj tu ta tc W u be ad cx n j = ∑ s : Fin 67, part tu ta tc W u be ad cx n j s.val := by
    refine Eq.trans ?_ e
    unfold proj
    refine Finset.sum_congr rfl fun c _ => ?_
    show _ = emb tu ta tc u be ad cx n (c.val / 88) (c.val % 88) * rat W (88 * (c.val / 88) + c.val % 88) j
    rw [Nat.div_add_mod]
  rw [e1, Fin.sum_univ_eq_sum_range (fun s => part tu ta tc W u be ad cx n j s), Finset.sum_range_succ, Finset.sum_range_succ]

theorem part_seg (n j r : ℕ) (hr : r < 65) : part tu ta tc W u be ad cx n j (seg r) = rq tu ta W r (vals u be ad n r) j := by
  unfold part rq vals
  by_cases h1 : r < 2
  · rw [if_pos h1, if_pos h1]
    have hs : seg r = r := by unfold seg; rw [if_pos h1]
    unfold RQ
    refine Finset.sum_congr rfl fun e _ => ?_
    unfold emb
    rw [hs, if_pos h1]
  · rw [if_neg h1, if_neg h1]
    unfold RQ
    refine Finset.sum_congr rfl fun e _ => congrArg (· * _) ?_
    by_cases h2 : r < 62
    · have hs : seg r = 2 + 3 * ((r - 2) % 20) + (r - 2) / 20 := by unfold seg; rw [if_neg h1, if_pos h2]
      have hf : fld r = (r - 2) / 20 := by unfold fld; rw [if_pos h2]
      unfold emb
      rw [if_pos h2, if_neg (show ¬ seg r < 2 by omega), if_pos (show seg r < 62 by omega), hf,
        show (seg r - 2) % 3 = (r - 2) / 20 by omega, show (seg r - 2) / 3 = (r - 2) % 20 by omega]
    · have hs : seg r = r := by unfold seg; rw [if_neg h1, if_neg h2]
      have hf : fld r = r - 62 := by unfold fld; rw [if_neg h2]
      unfold emb
      rw [hs, if_neg h2, if_neg h1, if_neg h2, if_pos hr, hf]

theorem part_ctx (n j f : ℕ) : part tu ta tc W u be ad cx n j (65 + f) = RQ tc W (10 * f) (5720 + 88 * f) (u2 cx n f) j := by
  unfold part RQ
  refine Finset.sum_congr rfl fun e _ => ?_
  unfold emb
  rw [if_neg (by omega), if_neg (by omega), if_neg (by omega), show 65 + f - 65 = f by omega, show 88 * (65 + f) = 5720 + 88 * f by ring]

theorem vals_lt (hu : ∀ a b, u2 u a b < 2) (hb : ∀ a b c, u3 be a b c < 3) (ha : ∀ a b c, u3 ad a b c < 3) (n r : ℕ) :
    (r < 2 → vals u be ad n r < 2) ∧ vals u be ad n r < 3 := by
  unfold vals
  split_ifs with h1 h2
  · exact ⟨fun _ => hu _ _, lt_trans (hu _ _) (by decide)⟩
  · exact ⟨fun h => absurd h h1, hb _ _ _⟩
  · exact ⟨fun h => absurd h h1, ha _ _ _⟩

/-- The first layer from the base row, the steps, the bends and the context rows is the embedding against the weights. -/
theorem first_layer (b1 : S1x200.Idx → ℝ) (hu : ∀ a b, u2 u a b < 2) (hb : ∀ a b c, u3 be a b c < 3) (ha : ∀ a b c, u3 ad a b c < 3)
    (hc : ∀ a b, u2 cx a b < 10) (n : ℕ) (j : Fin 200) :
    rBASE tu ta W b1 (Idealize.ShloMosaic.ix2 0 j)
      + ∑ r : Fin 65, ((vals u be ad n r.val : ℕ) : ℝ) * rPB tu ta W (Idealize.ShloMosaic.ix2 r j)
      + ∑ r : Fin 65, (((vals u be ad n r.val : ℕ) : ℝ) * (((vals u be ad n r.val : ℕ) : ℝ) - 1) * (1 / 2)) * rPC tu ta W (Idealize.ShloMosaic.ix2 r j)
      + ∑ k : Fin 20, (if ((u2 cx n (k.val / 10) : ℕ) : ℝ) = ((k.val % 10 : ℕ) : ℝ) then (1 : ℝ) else 0) * rQC tc W (Idealize.ShloMosaic.ix2 k j)
      = proj tu ta tc W u be ad cx n j.val + rat b1 0 j.val := by
  have hq := hits (u2 cx n) (fun f _ => hc n f) (fun f v => RQ tc W (10 * f) (5720 + 88 * f) v j.val)
  have hq' : ∑ k : Fin 20, (if ((u2 cx n (k.val / 10) : ℕ) : ℝ) = ((k.val % 10 : ℕ) : ℝ) then (1 : ℝ) else 0) * rQC tc W (Idealize.ShloMosaic.ix2 k j)
      = part tu ta tc W u be ad cx n j.val 65 + part tu ta tc W u be ad cx n j.val 66 :=
    hq.trans (congrArg₂ (· + ·) (part_ctx tu ta tc W u be ad cx n j.val 0).symm (part_ctx tu ta tc W u be ad cx n j.val 1).symm)
  have hB : rBASE tu ta W b1 (Idealize.ShloMosaic.ix2 0 j) = rat b1 0 j.val + ∑ r ∈ Finset.range 65, rq tu ta W r 0 j.val :=
    congrArg (rat b1 0 j.val + ·) (sum_order ord ord_image (fun r => rq tu ta W r 0 j.val))
  have hS : ∑ s ∈ Finset.range 65, part tu ta tc W u be ad cx n j.val s = ∑ r ∈ Finset.range 65, rq tu ta W r (vals u be ad n r) j.val := by
    rw [← sum_order seg seg_image]
    exact Finset.sum_congr rfl fun r hr => part_seg _ _ _ _ _ _ _ _ _ _ _ (Finset.mem_range.1 hr)
  have hN : ∑ r ∈ Finset.range 65, rq tu ta W r 0 j.val
      + ∑ r : Fin 65, ((vals u be ad n r.val : ℕ) : ℝ) * rPB tu ta W (Idealize.ShloMosaic.ix2 r j)
      + ∑ r : Fin 65, (((vals u be ad n r.val : ℕ) : ℝ) * (((vals u be ad n r.val : ℕ) : ℝ) - 1) * (1 / 2)) * rPC tu ta W (Idealize.ShloMosaic.ix2 r j)
      = ∑ r ∈ Finset.range 65, rq tu ta W r (vals u be ad n r) j.val := by
    rw [← Fin.sum_univ_eq_sum_range (fun r => rq tu ta W r 0 j.val), ← Fin.sum_univ_eq_sum_range (fun r => rq tu ta W r (vals u be ad n r) j.val),
      ← Finset.sum_add_distrib, ← Finset.sum_add_distrib]
    refine Finset.sum_congr rfl fun r _ => ?_
    have hv := vals_lt u be ad hu hb ha n r.val
    by_cases h1 : r.val < 2
    · have e : rPC tu ta W (Idealize.ShloMosaic.ix2 r j) = 0 := if_pos h1
      rw [e]
      exact newton2 (fun v => rq tu ta W r.val v j.val) _ (hv.1 h1)
    · have e : rPC tu ta W (Idealize.ShloMosaic.ix2 r j) = rq tu ta W r.val 2 j.val - 2 * rq tu ta W r.val 1 j.val + rq tu ta W r.val 0 j.val := if_neg h1
      rw [e]
      exact newton (fun v => rq tu ta W r.val v j.val) _ hv.2
  rw [hq', hB, proj_parts, hS, ← hN]
  ring

end

end Cert.KernelIdeal.Ctr

end
-- ==== Proof.Closed.lean ====
/- The kernel's result in closed form, over arrays of reals. -/
module

public import proofs.«01_k».proof.Proof.Equation

@[expose] public section

set_option maxRecDepth 16384

noncomputable section
open Idealize.ShloMosaic Idealize.ShloMosaic.TcCoe Idealize.SL.Sem
namespace Cert.KernelIdeal.Ctr
open Cert.KernelIdeal Cert.KernelIdeal.Gen Cert.KernelIdeal.Value

theorem ix2_eta {n k : ℕ} (y : (⟨2, ![n, k]⟩ : Shape).Idx) : y = Idealize.ShloMosaic.ix2 (y 0) (y 1) := by
  funext i; fin_cases i <;> rfl

theorem u2_lt {n k : ℕ} (x : (⟨2, ![n, k]⟩ : Shape).Idx → BitVec 32) (h : ℕ) (h0 : 0 < h) (hx : ∀ i, (x i).toNat < h) (a b : ℕ) : u2 x a b < h := by
  unfold u2; split_ifs
  · exact hx _
  · exact h0

theorem u3_lt {n k l : ℕ} (x : (⟨3, ![n, k, l]⟩ : Shape).Idx → BitVec 32) (h : ℕ) (h0 : 0 < h) (hx : ∀ i, (x i).toNat < h) (a b c : ℕ) : u3 x a b c < h := by
  unfold u3; split_ifs
  · exact hx _
  · exact h0

/-- The result at sample `n`, column `b`, before the last bias: the two rectified layers and the last weights. -/
def score (tu : S12x88.Idx → ℝ) (ta : S31x88.Idx → ℝ) (tc : S20x88.Idx → ℝ) (W : S5896x200.Idx → ℝ) (b1 : S200.Idx → ℝ)
    (W2 : S200x80.Idx → ℝ) (b2 : S80.Idx → ℝ) (W3 : S80x2.Idx → ℝ)
    (u : (⟨2, ![16384, 2]⟩ : Shape).Idx → BitVec 32) (be : (⟨3, ![16384, 20, 3]⟩ : Shape).Idx → BitVec 32)
    (ad : (⟨3, ![16384, 1, 3]⟩ : Shape).Idx → BitVec 32) (cx : (⟨2, ![16384, 2]⟩ : Shape).Idx → BitVec 32) (n : ℕ) (b : Fin 2) : ℝ :=
  ∑ k : Fin 80, lay2 (fun j => proj tu ta tc W u be ad cx n j.val + b1 (Idealize.ShloMosaic.ix1 j)) W2 (fun k => b2 (Idealize.ShloMosaic.ix1 k)) k
    * W3 (Idealize.ShloMosaic.ix2 k b)

variable (m : (ℓ : Loc nD τ sig) → Buf (Elt Ideal) ℓ)

theorem row_point (i : S16384x2.Idx) : 4096 * pt13Of i + (loc13Of i 0).val = (i 0).val := by
  have h0 : (i 0).val < 16384 := (i 0).isLt
  have h1 : (i 1).val < 2 := (i 1).isLt
  show 4096 * (1 * ((i 0).val / 4096 - 0) + 1 * ((i 1).val / 2 - 0)) + (i 0).val % 4096 = (i 0).val
  omega

theorem G_closed (c : Dev nD) (tu : S12x88.Idx → ℝ) (ta : S31x88.Idx → ℝ) (tc : S20x88.Idx → ℝ) (W : S5896x200.Idx → ℝ) (b1 : S200.Idx → ℝ)
    (W2 : S200x80.Idx → ℝ) (b2 : S80.Idx → ℝ) (W3 : S80x2.Idx → ℝ)
    (hu : ∀ i, BitVec.toNat ((m ((c : Thread nD τ).loc main_arg0) : Vec Ideal S16384x2 .i32) i) < 2)
    (hb : ∀ i, BitVec.toNat ((m ((c : Thread nD τ).loc main_arg1) : Vec Ideal S16384x20x3 .i32) i) < 3)
    (ha : ∀ i, BitVec.toNat ((m ((c : Thread nD τ).loc main_arg2) : Vec Ideal S16384x1x3 .i32) i) < 3)
    (hc : ∀ i, BitVec.toNat ((m ((c : Thread nD τ).loc main_arg3) : Vec Ideal S16384x2 .i32) i) < 10)
    (h4 : (m ((c : Thread nD τ).loc main_arg4) : Vec Ideal S12x88 .f32) = up tu) (h5 : (m ((c : Thread nD τ).loc main_arg5) : Vec Ideal S31x88 .f32) = up ta)
    (h6 : (m ((c : Thread nD τ).loc main_arg6) : Vec Ideal S20x88 .f32) = up tc) (h7 : (m ((c : Thread nD τ).loc main_arg7) : Vec Ideal S5896x200 .f32) = up W)
    (h8 : (m ((c : Thread nD τ).loc main_arg8) : Vec Ideal S200 .f32) = up b1) (h9 : (m ((c : Thread nD τ).loc main_arg9) : Vec Ideal S200x80 .f32) = up W2)
    (h10 : (m ((c : Thread nD τ).loc main_arg10) : Vec Ideal S80 .f32) = up b2) (h11 : (m ((c : Thread nD τ).loc main_arg11) : Vec Ideal S80x2 .f32) = up W3)
    (i : S16384x2.Idx) :
    G13 m c i = ((score tu ta tc W b1 W2 b2 W3 (m ((c : Thread nD τ).loc main_arg0) : Vec Ideal S16384x2 .i32) (m ((c : Thread nD τ).loc main_arg1) : Vec Ideal S16384x20x3 .i32)
        (m ((c : Thread nD τ).loc main_arg2) : Vec Ideal S16384x1x3 .i32) (m ((c : Thread nD τ).loc main_arg3) : Vec Ideal S16384x2 .i32) (i 0).val (i 1) : ℝ) : EReal)
      + (m ((c : Thread nD τ).loc main_arg12) : Vec Ideal S2 .f32) (Idealize.ShloMosaic.ix1 (i 1)) := by
  have e4 : (V m c main_arg4 : Vec Ideal S12x88 .f32) = up tu := (V_main_arg4 m c).trans h4
  have e5 : (V m c main_arg5 : Vec Ideal S31x88 .f32) = up ta := (V_main_arg5 m c).trans h5
  have e6 : (V m c main_arg6 : Vec Ideal S20x88 .f32) = up tc := (V_main_arg6 m c).trans h6
  have e7 : (V m c main_arg7 : Vec Ideal S5896x200 .f32) = up W := (V_main_arg7 m c).trans h7
  have e9 : (V m c main_arg9 : Vec Ideal S200x80 .f32) = up W2 := (V_main_arg9 m c).trans h9
  have e11 : (V m c main_arg11 : Vec Ideal S80x2 .f32) = up W3 := (V_main_arg11 m c).trans h11
  have e8 : (V m c main_v8 : Vec Ideal S1x200 .f32) = up fun y : S1x200.Idx => b1 (Idealize.ShloMosaic.ix1 (y 1)) := by
    funext y
    rw [ix2_eta y]
    exact (v8_V m c _ _).trans (congrFun h8 _)
  have e10 : (V m c main_v9 : Vec Ideal S1x80 .f32) = up fun y : S1x80.Idx => b2 (Idealize.ShloMosaic.ix1 (y 1)) := by
    funext y
    rw [ix2_eta y]
    exact (v9_V m c _ _).trans (congrFun h10 _)
  rw [G_apply, e4, e5, e6, e7, e8, e9, e10, e11, PB_up, PC_up, QC_up, BASE_up,
    OUT_apply _ _ _ _ _ _ _ _ _ _ _ _ _ (pay267_up _ _ _ (mc_V m c) (cvc_V m c))]
  have hpt : pt13Of i < 4 := lt_of_lt_of_eq (pt_lt i) N_0
  have hr := row_point i
  have hn : 4096 * pt13Of i + (loc13Of i 0).val < 16384 := hr ▸ (i 0).isLt
  have hx : ∀ r : Fin 65, xr (iblk m c 0 ⟨pt13Of i, pt_lt i⟩) (Idealize.ShloMosaic.ix2 (loc13Of i 0) r)
      = ((vals (m ((c : Thread nD τ).loc main_arg0) : Vec Ideal S16384x2 .i32) (m ((c : Thread nD τ).loc main_arg1) : Vec Ideal S16384x20x3 .i32)
        (m ((c : Thread nD τ).loc main_arg2) : Vec Ideal S16384x1x3 .i32) (i 0).val r.val : ℕ) : ℝ) := by
    intro r
    have e := v6_V m c (fun i => lt_trans (hu i) (by decide)) (fun i => lt_trans (hb i) (by decide)) (fun i => lt_trans (ha i) (by decide)) ⟨_, hn⟩ r
    unfold xr
    rw [blk0]
    refine (congrArg (fun z : ℤ => (z : ℝ)) e).trans ?_
    rw [← hr]
    exact Int.cast_natCast _
  have ho : ∀ k : Fin 20, orr (iblk m c 1 ⟨pt13Of i, pt_lt i⟩) (Idealize.ShloMosaic.ix2 (loc13Of i 0) k)
      = if ((u2 (m ((c : Thread nD τ).loc main_arg3) : Vec Ideal S16384x2 .i32) (i 0).val (k.val / 10) : ℕ) : ℝ) = ((k.val % 10 : ℕ) : ℝ) then (1 : ℝ) else 0 := by
    intro k
    have hk := k.isLt
    have e := v7_V m c hc ⟨_, hn⟩ ⟨k.val / 10, by omega⟩
    unfold orr
    rw [blk1]
    refine if_congr ?_ rfl rfl
    refine Eq.congr_left ?_
    refine (congrArg (fun z : ℤ => (z : ℝ)) e).trans ?_
    rw [← hr]
    exact Int.cast_natCast _
  have hp : pre1 (xr (iblk m c 0 ⟨pt13Of i, pt_lt i⟩)) (zr (iblk m c 0 ⟨pt13Of i, pt_lt i⟩)) (orr (iblk m c 1 ⟨pt13Of i, pt_lt i⟩))
      (rPB tu ta W) (rPC tu ta W) (rQC tc W) (rBASE tu ta W fun y : S1x200.Idx => b1 (Idealize.ShloMosaic.ix1 (y 1))) (loc13Of i 0)
      = fun j => proj tu ta tc W (m ((c : Thread nD τ).loc main_arg0) : Vec Ideal S16384x2 .i32) (m ((c : Thread nD τ).loc main_arg1) : Vec Ideal S16384x20x3 .i32)
        (m ((c : Thread nD τ).loc main_arg2) : Vec Ideal S16384x1x3 .i32) (m ((c : Thread nD τ).loc main_arg3) : Vec Ideal S16384x2 .i32) (i 0).val j.val
          + b1 (Idealize.ShloMosaic.ix1 j) := by
    funext j
    unfold pre1 zr
    simp only [hx, ho]
    refine (first_layer tu ta tc W _ _ _ _ _ (u2_lt _ 2 (by decide) hu) (u3_lt _ 3 (by decide) hb) (u3_lt _ 3 (by decide) ha) (u2_lt _ 10 (by decide) hc) (i 0).val j).trans ?_
    exact congrArg (_ + ·) (rat_ix (n := 1) (k := 200) (fun y : S1x200.Idx => b1 (Idealize.ShloMosaic.ix1 (y 1))) 0 j.val (by decide) j.isLt).symm
  have hl : loc13Of i 1 = i 1 := Fin.ext (Nat.mod_eq_of_lt (i 1).isLt)
  rw [hp, hl]
  exact congrArg₂ (· + ·) rfl (v10_V m c 0 (i 1))

end Cert.KernelIdeal.Ctr

end
-- ==== Proof.Reference.lean ====
/- The reference's embedding, read at an index. -/
module

public import proofs.«01_k».proof.Proof.Closed
public import proofs.«01_k».proof.Proof.Gen.ReferenceIdeal.Read

@[expose] public section

set_option maxRecDepth 16384

noncomputable section
open Idealize.ShloMosaic Idealize.ShloMosaic.TcCoe Idealize.SL.Sem
namespace Cert.ReferenceIdeal.Ctr
open Cert.ReferenceIdeal Cert.ReferenceIdeal.Gen Cert.ReferenceIdeal.Read
open Cert.KernelIdeal.Ctr (up u2 u3 rat adOff emb proj score lay2 u2_ix u3_ix rat_ix u2_lt u3_lt ix2_eta coe_sum coe_max)

/-! ## Rows of a table gathered at a rank-2 or rank-3 array of row numbers -/

section
variable {α : Type}

/-- The dimension numbers of a gather of whole rows at row numbers `[A, B, 1]`. -/
abbrev rowDims3 (N A B E : ℕ) (wf : GatherDims.WF ⟨2, ![N, E]⟩ ⟨3, ![A, B, 1]⟩ ⟨3, ![A, B, E]⟩ [2] [0] [] [0] [] 2 ![1, E]) :
    GatherDims ⟨2, ![N, E]⟩ ⟨3, ![A, B, 1]⟩ ⟨3, ![A, B, E]⟩ where
  offsetDims := [2]
  collapsedSliceDims := [0]
  operandBatchingDims := []
  startIndicesBatchingDims := []
  startIndexMap := [0]
  indexVectorDim := 2
  sliceSizes := ![1, E]
  wf := wf

theorem rows3 {N A B E : ℕ} (hN : 0 < N) (wf) (x : (⟨2, ![N, E]⟩ : Shape).Idx → α) (idx : IVec ⟨3, ![A, B, 1]⟩ 32) (y : (⟨3, ![A, B, E]⟩ : Shape).Idx) :
    Host.gather (rowDims3 N A B E wf) x idx y
      = x (Idealize.ShloMosaic.ix2 ⟨min (idx (Idealize.ShloMosaic.ix3 (y 0) (y 1) 0)).toInt.toNat (N - 1), by omega⟩ (y 2)) := by
  unfold Host.gather
  congr 1
  funext a
  refine Fin.ext ?_
  show (rowDims3 N A B E wf).start y idx a + (rowDims3 N A B E wf).batchCoord y a + (rowDims3 N A B E wf).offCoord y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims3 N A B E wf).startIndexMap from List.mem_singleton.mpr rfl)]
    have hsi : (rowDims3 N A B E wf).siIdx y ⟨List.idxOf (0 : Fin 2) (rowDims3 N A B E wf).startIndexMap,
        List.idxOf_lt_length_iff.2 (List.mem_singleton.mpr rfl)⟩ = Idealize.ShloMosaic.ix3 (y 0) (y 1) 0 := by
      funext b; refine Fin.ext ?_
      match b with
      | ⟨0, _⟩ => rfl
      | ⟨1, _⟩ => rfl
      | ⟨2, _⟩ => rfl
    rw [hsi]
    rfl
  · have hs : (rowDims3 N A B E wf).start y idx 1 = 0 := by
      unfold GatherDims.start
      exact dif_neg (show (1 : Fin 2) ∉ [(0 : Fin 2)] by decide)
    rw [hs, Nat.zero_add]
    unfold GatherDims.offCoord
    rw [dif_pos ((GatherDims.mem_sKept _ _).mpr ⟨show (1 : Fin 2) ∉ [(0 : Fin 2)] by decide, List.not_mem_nil⟩)]
    rfl

/-- The dimension numbers of a gather of whole rows at row numbers `[A, B, C, 1]`. -/
abbrev rowDims4 (N A B C E : ℕ) (wf : GatherDims.WF ⟨2, ![N, E]⟩ ⟨4, ![A, B, C, 1]⟩ ⟨4, ![A, B, C, E]⟩ [3] [0] [] [0] [] 3 ![1, E]) :
    GatherDims ⟨2, ![N, E]⟩ ⟨4, ![A, B, C, 1]⟩ ⟨4, ![A, B, C, E]⟩ where
  offsetDims := [3]
  collapsedSliceDims := [0]
  operandBatchingDims := []
  startIndicesBatchingDims := []
  startIndexMap := [0]
  indexVectorDim := 3
  sliceSizes := ![1, E]
  wf := wf

theorem rows4 {N A B C E : ℕ} (hN : 0 < N) (wf) (x : (⟨2, ![N, E]⟩ : Shape).Idx → α) (idx : IVec ⟨4, ![A, B, C, 1]⟩ 32) (y : (⟨4, ![A, B, C, E]⟩ : Shape).Idx) :
    Host.gather (rowDims4 N A B C E wf) x idx y
      = x (Idealize.ShloMosaic.ix2 ⟨min (idx (Idealize.ShloMosaic.ix4 (y 0) (y 1) (y 2) 0)).toInt.toNat (N - 1), by omega⟩ (y 3)) := by
  unfold Host.gather
  congr 1
  funext a
  refine Fin.ext ?_
  show (rowDims4 N A B C E wf).start y idx a + (rowDims4 N A B C E wf).batchCoord y a + (rowDims4 N A B C E wf).offCoord y a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims4 N A B C E wf).startIndexMap from List.mem_singleton.mpr rfl)]
    have hsi : (rowDims4 N A B C E wf).siIdx y ⟨List.idxOf (0 : Fin 2) (rowDims4 N A B C E wf).startIndexMap,
        List.idxOf_lt_length_iff.2 (List.mem_singleton.mpr rfl)⟩ = Idealize.ShloMosaic.ix4 (y 0) (y 1) (y 2) 0 := by
      funext b; refine Fin.ext ?_
      match b with
      | ⟨0, _⟩ => rfl
      | ⟨1, _⟩ => rfl
      | ⟨2, _⟩ => rfl
      | ⟨3, _⟩ => rfl
    rw [hsi]
    rfl
  · have hs : (rowDims4 N A B C E wf).start y idx 1 = 0 := by
      unfold GatherDims.start
      exact dif_neg (show (1 : Fin 2) ∉ [(0 : Fin 2)] by decide)
    rw [hs, Nat.zero_add]
    unfold GatherDims.offCoord
    rw [dif_pos ((GatherDims.mem_sKept _ _).mpr ⟨show (1 : Fin 2) ∉ [(0 : Fin 2)] by decide, List.not_mem_nil⟩)]
    rfl

end

/-! ## The row numbers -/

/-- A row number that is not negative is not wrapped. -/
theorem wrap (w k : BitVec 32) (h : w.toNat < 2 ^ 31) : Scalar.select (IntOp.cmpi .slt w 0#32) (IntOp.addi w k) w = w := by
  have e : IntOp.cmpi .slt w 0#32 ≠ 1#1 := by
    rw [Ne, StableHlo.Predicate.slt_iff_toNat h (by decide)]
    exact Nat.not_lt_zero _
  unfold Scalar.select
  exact if_neg e

/-- A row number within the table passes the bounds' mask. -/
theorem in_mask (w hi : BitVec 32) (hhi : hi.toNat < 2 ^ 31) (h : w.toNat ≤ hi.toNat) : IntOp.andi (IntOp.cmpi .sge w 0#32) (IntOp.cmpi .sle w hi) = 1#1 :=
  IntOp.andi_eq_one.2 ⟨(StableHlo.Predicate.sge_iff_toNat (by omega) (by decide)).2 (Nat.zero_le _), (StableHlo.Predicate.sle_iff_toNat (by omega) hhi).2 h⟩

/-- A small row number clamped into the table is itself. -/
theorem clamp_row (w : BitVec 32) (N : ℕ) (hN : N < 2 ^ 31) (h : w.toNat < N) : min w.toInt.toNat (N - 1) = w.toNat := by
  rw [StableHlo.Predicate.toInt_eq_toNat_of_lt (by omega), Int.toNat_natCast]
  omega

theorem off_user (i : S2.Idx) : val_main_v2 (F := Ideal) i = BitVec.ofNat 32 (2 * (i 0).val) := by
  have h : ∀ k : Fin 2, val_main_v2 (F := Ideal) (Idealize.ShloMosaic.ix1 k) = BitVec.ofNat 32 (2 * k.val) := by
    intro k; fin_cases k <;> rfl
  rw [show i = Idealize.ShloMosaic.ix1 (i 0) from funext fun a => match a with | ⟨0, _⟩ => rfl]
  exact h _

theorem off_ad (i : S3.Idx) : val_main_v6 (F := Ideal) i = BitVec.ofNat 32 (adOff (i 0).val) := by
  have h : ∀ k : Fin 3, val_main_v6 (F := Ideal) (Idealize.ShloMosaic.ix1 k) = BitVec.ofNat 32 (adOff k.val) := by
    intro k; fin_cases k <;> rfl
  rw [show i = Idealize.ShloMosaic.ix1 (i 0) from funext fun a => match a with | ⟨0, _⟩ => rfl]
  exact h _

theorem off_ctx (i : S2.Idx) : val_main_v9 (F := Ideal) i = BitVec.ofNat 32 (10 * (i 0).val) := by
  have h : ∀ k : Fin 2, val_main_v9 (F := Ideal) (Idealize.ShloMosaic.ix1 k) = BitVec.ofNat 32 (10 * k.val) := by
    intro k; fin_cases k <;> rfl
  rw [show i = Idealize.ShloMosaic.ix1 (i 0) from funext fun a => match a with | ⟨0, _⟩ => rfl]
  exact h _

/-- A small word plus a small offset, as a number. -/
theorem toNat_off (w : BitVec 32) (o : ℕ) (ho : o < 100) (hw : w.toNat < 100) : (IntOp.addi w (BitVec.ofNat 32 o)).toNat = o + w.toNat := by
  show (w + BitVec.ofNat 32 o).toNat = _
  rw [BitVec.toNat_add, BitVec.toNat_ofNat]
  omega

theorem u2_at {n k : ℕ} (x : (⟨2, ![n, k]⟩ : Shape).Idx → BitVec 32) (i : (⟨2, ![n, k]⟩ : Shape).Idx) : (x i).toNat = u2 x (i 0).val (i 1).val := by
  rw [← u2_ix x _ _ (i 0).isLt (i 1).isLt]
  exact congrArg (fun j => (x j).toNat) (Idealize.ShloMosaic.ix2_eta i).symm

theorem u3_at {n k l : ℕ} (x : (⟨3, ![n, k, l]⟩ : Shape).Idx → BitVec 32) (i : (⟨3, ![n, k, l]⟩ : Shape).Idx) :
    (x i).toNat = u3 x (i 0).val (i 1).val (i 2).val := by
  rw [← u3_ix x _ _ _ (i 0).isLt (i 1).isLt (i 2).isLt]
  exact congrArg (fun j => (x j).toNat) (funext fun a => match a with | ⟨0, _⟩ => rfl | ⟨1, _⟩ => rfl | ⟨2, _⟩ => rfl)

theorem adOff_lt (k : ℕ) : adOff k ≤ 16 := by unfold adOff; split_ifs <;> decide

theorem row_user (x0 : IVec S16384x2 32) (hx : ∀ i, (x0 i).toNat < 100) (i : S16384x2.Idx) :
    (val_main_v12 (F := Ideal) x0 i).toNat = 2 * (i 1).val + u2 x0 (i 0).val (i 1).val := by
  have hb : (i 1).val < 2 := (i 1).isLt
  rw [val_main_v12_apply, val_main_v11_apply, val_main_v10_apply, off_user, ← u2_at]
  exact toNat_off _ _ (show 2 * (i 1).val < 100 by omega) (hx _)

theorem row_beh (x1 : IVec S16384x20x3 32) (hx : ∀ i, (x1 i).toNat < 100) (i : S16384x20x3.Idx) :
    (val_main_v17 (F := Ideal) x1 i).toNat = adOff (i 2).val + u3 x1 (i 0).val (i 1).val (i 2).val := by
  rw [val_main_v17_apply, val_main_v16_apply, val_main_v15_apply, off_ad, ← u3_at]
  exact toNat_off _ _ (show adOff (i 2).val < 100 from (adOff_lt _).trans_lt (by decide)) (hx _)

theorem row_cand (x2 : IVec S16384x1x3 32) (hx : ∀ i, (x2 i).toNat < 100) (i : S16384x1x3.Idx) :
    (val_main_v23 (F := Ideal) x2 i).toNat = adOff (i 2).val + u3 x2 (i 0).val (i 1).val (i 2).val := by
  rw [val_main_v23_apply, val_main_v22_apply, val_main_v21_apply, off_ad, ← u3_at]
  exact toNat_off _ _ (show adOff (i 2).val < 100 from (adOff_lt _).trans_lt (by decide)) (hx _)

theorem row_ctx (x3 : IVec S16384x2 32) (hx : ∀ i, (x3 i).toNat < 100) (i : S16384x2.Idx) :
    (val_main_v28 (F := Ideal) x3 i).toNat = 10 * (i 1).val + u2 x3 (i 0).val (i 1).val := by
  have hb : (i 1).val < 2 := (i 1).isLt
  rw [val_main_v28_apply, val_main_v27_apply, val_main_v26_apply, off_ctx, ← u2_at]
  exact toNat_off _ _ (show 10 * (i 1).val < 100 by omega) (hx _)

/-! ## The rows taken -/

/-- An entry of a table at a clamped row number that needs no clamping. -/
theorem at_row {N E : ℕ} (t : (⟨2, ![N, E]⟩ : Shape).Idx → ℝ) (w : BitVec 32) (r : ℕ) (hN : N < 2 ^ 31) (hw : w.toNat < N) (hr : w.toNat = r) (h) (e : Fin E) :
    up t (Idealize.ShloMosaic.ix2 ⟨min w.toInt.toNat (N - 1), h⟩ e) = ((rat t r e.val : ℝ) : EReal) := by
  show ((t (Idealize.ShloMosaic.ix2 ⟨min w.toInt.toNat (N - 1), h⟩ ⟨e.val, e.isLt⟩) : ℝ) : EReal) = _
  rw [rat_ix t, clamp_row w N hN hw, hr]

/-- The user rows. -/
theorem take_user (x0 : IVec S16384x2 32) (hx : ∀ i, (x0 i).toNat < 2) (t : S12x88.Idx → ℝ) (i : S16384x2x88.Idx) :
    val_main_v13 (F := Ideal) x0 (up t) i = ((rat t (2 * (i 1).val + u2 x0 (i 0).val (i 1).val) (i 2).val : ℝ) : EReal) := by
  have hr := row_user x0 (fun i => (hx i).trans (by decide))
  have hlt : ∀ j, (val_main_v12 (F := Ideal) x0 j).toNat < 12 := fun j => by
    have h1 : (j 1).val < 2 := (j 1).isLt
    have h2 := u2_lt x0 2 (by decide) hx (j 0).val (j 1).val
    rw [hr]
    omega
  have hw : ∀ j, val_main_call0_v5 (F := Ideal) x0 j = val_main_v12 (F := Ideal) x0 (idx_main_call0_v5 j) := fun j => by
    rw [val_main_call0_v5_apply, val_main_call0_v4_apply]
    exact wrap _ _ ((hlt _).trans (by decide))
  have hm : val_main_call0_v14 (F := Ideal) x0 i = 1#1 := by
    rw [val_main_call0_v14_apply]
    refine Host.reduce_andi_one _ _ _ _ _ rfl fun j => ?_
    rw [val_main_call0_v11_apply, val_main_call0_v7_apply, val_main_call0_v10_apply, hw]
    exact in_mask _ 11#32 (by decide) (Nat.le_of_lt_succ (hlt _))
  rw [val_main_v13_apply, hm]
  refine (rows3 (by decide) _ (up t) (val_main_call0_v5 (F := Ideal) x0) i).trans (at_row t _ _ (by decide) ?_ ?_ _ _)
  · rw [hw]; exact hlt _
  · rw [hw]; exact hr _

/-- The context rows. -/
theorem take_ctx (x3 : IVec S16384x2 32) (hx : ∀ i, (x3 i).toNat < 10) (t : S20x88.Idx → ℝ) (i : S16384x2x88.Idx) :
    val_main_v29 (F := Ideal) x3 (up t) i = ((rat t (10 * (i 1).val + u2 x3 (i 0).val (i 1).val) (i 2).val : ℝ) : EReal) := by
  have hr := row_ctx x3 (fun i => (hx i).trans (by decide))
  have hlt : ∀ j, (val_main_v28 (F := Ideal) x3 j).toNat < 20 := fun j => by
    have h1 : (j 1).val < 2 := (j 1).isLt
    have h2 := u2_lt x3 10 (by decide) hx (j 0).val (j 1).val
    rw [hr]
    omega
  have hw : ∀ j, val_main_call3_v5 (F := Ideal) x3 j = val_main_v28 (F := Ideal) x3 (idx_main_call3_v5 j) := fun j => by
    rw [val_main_call3_v5_apply, val_main_call3_v4_apply]
    exact wrap _ _ ((hlt _).trans (by decide))
  have hm : val_main_call3_v14 (F := Ideal) x3 i = 1#1 := by
    rw [val_main_call3_v14_apply]
    refine Host.reduce_andi_one _ _ _ _ _ rfl fun j => ?_
    rw [val_main_call3_v11_apply, val_main_call3_v7_apply, val_main_call3_v10_apply, hw]
    exact in_mask _ 19#32 (by decide) (Nat.le_of_lt_succ (hlt _))
  rw [val_main_v29_apply, hm]
  refine (rows3 (by decide) _ (up t) (val_main_call3_v5 (F := Ideal) x3) i).trans (at_row t _ _ (by decide) ?_ ?_ _ _)
  · rw [hw]; exact hlt _
  · rw [hw]; exact hr _

/-- The behaviours' rows. -/
theorem take_beh (x1 : IVec S16384x20x3 32) (hx : ∀ i, (x1 i).toNat < 3) (t : S31x88.Idx → ℝ) (i : S16384x20x3x88.Idx) :
    val_main_v18 (F := Ideal) x1 (up t) i = ((rat t (adOff (i 2).val + u3 x1 (i 0).val (i 1).val (i 2).val) (i 3).val : ℝ) : EReal) := by
  have hr := row_beh x1 (fun i => (hx i).trans (by decide))
  have hlt : ∀ j, (val_main_v17 (F := Ideal) x1 j).toNat < 31 := fun j => by
    have h1 := adOff_lt (j 2).val
    have h2 := u3_lt x1 3 (by decide) hx (j 0).val (j 1).val (j 2).val
    rw [hr]
    omega
  have hw : ∀ j, val_main_call1_v5 (F := Ideal) x1 j = val_main_v17 (F := Ideal) x1 (idx_main_call1_v5 j) := fun j => by
    rw [val_main_call1_v5_apply, val_main_call1_v4_apply]
    exact wrap _ _ ((hlt _).trans (by decide))
  have hm : val_main_call1_v14 (F := Ideal) x1 i = 1#1 := by
    rw [val_main_call1_v14_apply]
    refine Host.reduce_andi_one _ _ _ _ _ rfl fun j => ?_
    rw [val_main_call1_v11_apply, val_main_call1_v7_apply, val_main_call1_v10_apply, hw]
    exact in_mask _ 30#32 (by decide) (Nat.le_of_lt_succ (hlt _))
  rw [val_main_v18_apply, hm]
  refine (rows4 (by decide) _ (up t) (val_main_call1_v5 (F := Ideal) x1) i).trans (at_row t _ _ (by decide) ?_ ?_ _ _)
  · rw [hw]; exact hlt _
  · rw [hw]; exact hr _

/-- The candidate ad's rows. -/
theorem take_cand (x2 : IVec S16384x1x3 32) (hx : ∀ i, (x2 i).toNat < 3) (t : S31x88.Idx → ℝ) (i : S16384x1x3x88.Idx) :
    val_main_v24 (F := Ideal) x2 (up t) i = ((rat t (adOff (i 2).val + u3 x2 (i 0).val 0 (i 2).val) (i 3).val : ℝ) : EReal) := by
  have hr := row_cand x2 (fun i => (hx i).trans (by decide))
  have hlt : ∀ j, (val_main_v23 (F := Ideal) x2 j).toNat < 31 := fun j => by
    have h1 := adOff_lt (j 2).val
    have h2 := u3_lt x2 3 (by decide) hx (j 0).val (j 1).val (j 2).val
    rw [hr]
    omega
  have hw : ∀ j, val_main_call2_v5 (F := Ideal) x2 j = val_main_v23 (F := Ideal) x2 (idx_main_call2_v5 j) := fun j => by
    rw [val_main_call2_v5_apply, val_main_call2_v4_apply]
    exact wrap _ _ ((hlt _).trans (by decide))
  have hm : val_main_call2_v14 (F := Ideal) x2 i = 1#1 := by
    rw [val_main_call2_v14_apply]
    refine Host.reduce_andi_one _ _ _ _ _ rfl fun j => ?_
    rw [val_main_call2_v11_apply, val_main_call2_v7_apply, val_main_call2_v10_apply, hw]
    exact in_mask _ 30#32 (by decide) (Nat.le_of_lt_succ (hlt _))
  rw [val_main_v24_apply, hm]
  refine (rows4 (by decide) _ (up t) (val_main_call2_v5 (F := Ideal) x2) i).trans (at_row t _ _ (by decide) ?_ ?_ _ _)
  · rw [hw]; exact hlt _
  · rw [hw]; exact hr _

/-! ## The embedding -/

theorem seg_user (x0 : IVec S16384x2 32) (hx : ∀ i, (x0 i).toNat < 2) (t : S12x88.Idx → ℝ) (n : Fin 16384) (c : Fin 176) :
    val_main_v14 (F := Ideal) x0 (up t) (Idealize.ShloMosaic.ix2 n c)
      = ((rat t (2 * (c.val / 88) + u2 x0 n.val (c.val / 88)) (c.val % 88) : ℝ) : EReal) := by
  rw [val_main_v14_apply, take_user x0 hx]
  have hc := c.isLt
  show ((rat t (2 * ((n.val * 176 + c.val) / 88 % 2) + u2 x0 ((n.val * 176 + c.val) / 176) ((n.val * 176 + c.val) / 88 % 2)) ((n.val * 176 + c.val) % 88) : ℝ) : EReal) = _
  rw [show (n.val * 176 + c.val) / 88 % 2 = c.val / 88 by omega, show (n.val * 176 + c.val) / 176 = n.val by omega,
    show (n.val * 176 + c.val) % 88 = c.val % 88 by omega]

theorem seg_ctx (x3 : IVec S16384x2 32) (hx : ∀ i, (x3 i).toNat < 10) (t : S20x88.Idx → ℝ) (n : Fin 16384) (c : Fin 176) :
    val_main_v30 (F := Ideal) x3 (up t) (Idealize.ShloMosaic.ix2 n c)
      = ((rat t (10 * (c.val / 88) + u2 x3 n.val (c.val / 88)) (c.val % 88) : ℝ) : EReal) := by
  rw [val_main_v30_apply, take_ctx x3 hx]
  have hc := c.isLt
  show ((rat t (10 * ((n.val * 176 + c.val) / 88 % 2) + u2 x3 ((n.val * 176 + c.val) / 176) ((n.val * 176 + c.val) / 88 % 2)) ((n.val * 176 + c.val) % 88) : ℝ) : EReal) = _
  rw [show (n.val * 176 + c.val) / 88 % 2 = c.val / 88 by omega, show (n.val * 176 + c.val) / 176 = n.val by omega,
    show (n.val * 176 + c.val) % 88 = c.val % 88 by omega]

theorem seg_cand (x2 : IVec S16384x1x3 32) (hx : ∀ i, (x2 i).toNat < 3) (t : S31x88.Idx → ℝ) (n : Fin 16384) (c : Fin 264) :
    val_main_v25 (F := Ideal) x2 (up t) (Idealize.ShloMosaic.ix2 n c)
      = ((rat t (adOff (c.val / 88) + u3 x2 n.val 0 (c.val / 88)) (c.val % 88) : ℝ) : EReal) := by
  rw [val_main_v25_apply, take_cand x2 hx]
  have hc := c.isLt
  show ((rat t (adOff ((n.val * 264 + c.val) / 88 % 3) + u3 x2 ((n.val * 264 + c.val) / 264) 0 ((n.val * 264 + c.val) / 88 % 3)) ((n.val * 264 + c.val) % 88) : ℝ) : EReal) = _
  rw [show (n.val * 264 + c.val) / 88 % 3 = c.val / 88 by omega, show (n.val * 264 + c.val) / 264 = n.val by omega,
    show (n.val * 264 + c.val) % 88 = c.val % 88 by omega]

theorem seg_beh (x1 : IVec S16384x20x3 32) (hx : ∀ i, (x1 i).toNat < 3) (t : S31x88.Idx → ℝ) (n : Fin 16384) (c : Fin 5280) :
    val_main_v20 (F := Ideal) x1 (up t) (Idealize.ShloMosaic.ix2 n c)
      = ((rat t (adOff (c.val / 88 % 3) + u3 x1 n.val (c.val / 88 / 3) (c.val / 88 % 3)) (c.val % 88) : ℝ) : EReal) := by
  rw [val_main_v20_apply, val_main_v19_apply, take_beh x1 hx]
  have hc := c.isLt
  have hq : ((n.val * 5280 + c.val) / 5280 * 20 + (n.val * 5280 + c.val) / 264 % 20) * 264 + (n.val * 5280 + c.val) % 264 = n.val * 5280 + c.val := by omega
  show ((rat t (adOff ((((n.val * 5280 + c.val) / 5280 * 20 + (n.val * 5280 + c.val) / 264 % 20) * 264 + (n.val * 5280 + c.val) % 264) / 88 % 3)
    + u3 x1 ((((n.val * 5280 + c.val) / 5280 * 20 + (n.val * 5280 + c.val) / 264 % 20) * 264 + (n.val * 5280 + c.val) % 264) / 5280)
      ((((n.val * 5280 + c.val) / 5280 * 20 + (n.val * 5280 + c.val) / 264 % 20) * 264 + (n.val * 5280 + c.val) % 264) / 264 % 20)
      ((((n.val * 5280 + c.val) / 5280 * 20 + (n.val * 5280 + c.val) / 264 % 20) * 264 + (n.val * 5280 + c.val) % 264) / 88 % 3))
    ((((n.val * 5280 + c.val) / 5280 * 20 + (n.val * 5280 + c.val) / 264 % 20) * 264 + (n.val * 5280 + c.val) % 264) % 88) : ℝ) : EReal) = _
  rw [hq, show (n.val * 5280 + c.val) / 88 % 3 = c.val / 88 % 3 by omega, show (n.val * 5280 + c.val) / 5280 = n.val by omega,
    show (n.val * 5280 + c.val) / 264 % 20 = c.val / 88 / 3 by omega, show (n.val * 5280 + c.val) % 88 = c.val % 88 by omega]

/-- The reference's concatenated embedding is the embedding the kernel's first layer was reduced to. -/
theorem embedding (x0 : IVec S16384x2 32) (x1 : IVec S16384x20x3 32) (x2 : IVec S16384x1x3 32) (x3 : IVec S16384x2 32)
    (tu : S12x88.Idx → ℝ) (ta : S31x88.Idx → ℝ) (tc : S20x88.Idx → ℝ)
    (h0 : ∀ i, (x0 i).toNat < 2) (h1 : ∀ i, (x1 i).toNat < 3) (h2 : ∀ i, (x2 i).toNat < 3) (h3 : ∀ i, (x3 i).toNat < 10)
    (n : Fin 16384) (c : Fin 5896) :
    val_main_v31 (F := Ideal) x0 x1 x2 x3 (up tu) (up ta) (up tc) (Idealize.ShloMosaic.ix2 n c)
      = ((emb tu ta tc x0 x1 x2 x3 n.val (c.val / 88) (c.val % 88) : ℝ) : EReal) := by
  have hc := c.isLt
  unfold val_main_v31
  simp only [pointwise]
  by_cases p0 : c.val < 176
  · rw [dif_pos (show c.val < (![16384, 176] : Fin 2 → ℕ) 1 from p0)]
    refine (seg_user x0 h0 tu n ⟨c.val, p0⟩).trans (congrArg _ ?_)
    unfold emb
    rw [if_pos (by omega)]
  rw [dif_neg (show ¬ c.val < (![16384, 176] : Fin 2 → ℕ) 1 from p0)]
  by_cases p1 : c.val - 176 < 5280
  · rw [dif_pos (show c.val - (![16384, 176] : Fin 2 → ℕ) 1 < (![16384, 5280] : Fin 2 → ℕ) 1 from p1)]
    refine (seg_beh x1 h1 ta n ⟨c.val - 176, p1⟩).trans (congrArg _ ?_)
    unfold emb
    rw [if_neg (by omega), if_pos (by omega), show c.val / 88 - 2 = (c.val - 176) / 88 by omega, show c.val % 88 = (c.val - 176) % 88 by omega]
  rw [dif_neg (show ¬ c.val - (![16384, 176] : Fin 2 → ℕ) 1 < (![16384, 5280] : Fin 2 → ℕ) 1 from p1)]
  by_cases p2 : c.val - 176 - 5280 < 264
  · rw [dif_pos (show c.val - (![16384, 176] : Fin 2 → ℕ) 1 - (![16384, 5280] : Fin 2 → ℕ) 1 < (![16384, 264] : Fin 2 → ℕ) 1 from p2)]
    refine (seg_cand x2 h2 ta n ⟨c.val - 176 - 5280, p2⟩).trans (congrArg _ ?_)
    unfold emb
    rw [if_neg (by omega), if_neg (by omega), if_pos (by omega), show c.val / 88 - 62 = (c.val - 176 - 5280) / 88 by omega,
      show c.val % 88 = (c.val - 176 - 5280) % 88 by omega]
  rw [dif_neg (show ¬ c.val - (![16384, 176] : Fin 2 → ℕ) 1 - (![16384, 5280] : Fin 2 → ℕ) 1 < (![16384, 264] : Fin 2 → ℕ) 1 from p2)]
  refine (seg_ctx x3 h3 tc n ⟨c.val - 176 - 5280 - 264, by omega⟩).trans (congrArg _ ?_)
  unfold emb
  rw [if_neg (by omega), if_neg (by omega), if_neg (by omega), show c.val / 88 - 65 = (c.val - 176 - 5280 - 264) / 88 by omega,
    show c.val % 88 = (c.val - 176 - 5280 - 264) % 88 by omega]

/-! ## The dense layers -/

theorem zero_bits : (FloatOps.ofBits (F := Ideal) .f32 0x00000000#32 : Elt Ideal .f32) = (0 : EReal) := Ideal.ofBits_zero_f32

section
variable (x0 : IVec S16384x2 32) (x1 : IVec S16384x20x3 32) (x2 : IVec S16384x1x3 32) (x3 : IVec S16384x2 32)
  (tu : S12x88.Idx → ℝ) (ta : S31x88.Idx → ℝ) (tc : S20x88.Idx → ℝ) (W : S5896x200.Idx → ℝ) (b1 : S200.Idx → ℝ)
  (W2 : S200x80.Idx → ℝ) (b2 : S80.Idx → ℝ) (W3 : S80x2.Idx → ℝ)
  (h0 : ∀ i, (x0 i).toNat < 2) (h1 : ∀ i, (x1 i).toNat < 3) (h2 : ∀ i, (x2 i).toNat < 3) (h3 : ∀ i, (x3 i).toNat < 10)

include h0 h1 h2 h3

/-- The reference's first hidden layer. -/
theorem hidden1 (n : Fin 16384) (j : Fin 200) :
    val_main_v36 (F := Ideal) x0 x1 x2 x3 (up tu) (up ta) (up tc) (up W) (up b1) (Idealize.ShloMosaic.ix2 n j)
      = ((max (proj tu ta tc W x0 x1 x2 x3 n.val j.val + b1 (Idealize.ShloMosaic.ix1 j)) 0 : ℝ) : EReal) := by
  rw [val_main_v36_apply, val_main_v35_apply, val_main_v32_apply, val_main_v34_apply, val_main_v33_apply, val_main_call4_v0_apply, val_main_call4_cst_apply]
  have e : (∑ k : Fin 5896, val_main_v31 (F := Ideal) x0 x1 x2 x3 (up tu) (up ta) (up tc) (lidx_main_v32 (Idealize.ShloMosaic.ix2 n j) k) * up W (ridx_main_v32 (Idealize.ShloMosaic.ix2 n j) k))
      = ((proj tu ta tc W x0 x1 x2 x3 n.val j.val : ℝ) : EReal) := by
    unfold proj
    rw [coe_sum]
    refine Finset.sum_congr rfl fun k _ => ?_
    rw [EReal.coe_mul, ← embedding x0 x1 x2 x3 tu ta tc h0 h1 h2 h3 n k, ← rat_ix W k.val j.val k.isLt j.isLt]
    refine congr (congrArg HMul.hMul (congrArg _ ?_)) (congrArg _ ?_)
    · exact funext fun a => match a with | ⟨0, _⟩ => rfl | ⟨1, _⟩ => rfl
    · exact (funext fun a => match a with | ⟨0, _⟩ => rfl | ⟨1, _⟩ => rfl)
  rw [e, zero_bits, coe_max, EReal.coe_add, EReal.coe_zero]
  exact congrArg (fun z : EReal => max (((proj tu ta tc W x0 x1 x2 x3 n.val j.val : ℝ) : EReal) + z) 0)
    (congrArg (fun q => ((b1 q : ℝ) : EReal)) (funext fun a => match a with | ⟨0, _⟩ => rfl))

/-- The reference's second hidden layer. -/
theorem hidden2 (n : Fin 16384) (k : Fin 80) :
    val_main_v41 (F := Ideal) x0 x1 x2 x3 (up tu) (up ta) (up tc) (up W) (up b1) (up W2) (up b2) (Idealize.ShloMosaic.ix2 n k)
      = ((lay2 (fun j => proj tu ta tc W x0 x1 x2 x3 n.val j.val + b1 (Idealize.ShloMosaic.ix1 j)) W2 (fun k => b2 (Idealize.ShloMosaic.ix1 k)) k : ℝ) : EReal) := by
  rw [val_main_v41_apply, val_main_v40_apply, val_main_v37_apply, val_main_v39_apply, val_main_v38_apply, val_main_call5_v0_apply, val_main_call5_cst_apply]
  unfold lay2
  have e : (∑ j : Fin 200, val_main_v36 (F := Ideal) x0 x1 x2 x3 (up tu) (up ta) (up tc) (up W) (up b1) (lidx_main_v37 (Idealize.ShloMosaic.ix2 n k) j) * up W2 (ridx_main_v37 (Idealize.ShloMosaic.ix2 n k) j))
      = ((∑ j : Fin 200, max (proj tu ta tc W x0 x1 x2 x3 n.val j.val + b1 (Idealize.ShloMosaic.ix1 j)) 0 * W2 (Idealize.ShloMosaic.ix2 j k) : ℝ) : EReal) := by
    rw [coe_sum]
    refine Finset.sum_congr rfl fun j _ => ?_
    rw [EReal.coe_mul, ← hidden1 x0 x1 x2 x3 tu ta tc W b1 h0 h1 h2 h3 n j]
    refine congr (congrArg HMul.hMul (congrArg _ ?_)) (congrArg _ ?_)
    · exact funext fun a => match a with | ⟨0, _⟩ => rfl | ⟨1, _⟩ => rfl
    · exact funext fun a => match a with | ⟨0, _⟩ => rfl | ⟨1, _⟩ => rfl
  rw [e, zero_bits, coe_max, EReal.coe_add, EReal.coe_zero]
  exact congrArg (fun z : EReal => max (_ + z) 0)
    (congrArg (fun q => ((b2 q : ℝ) : EReal)) (funext fun a => match a with | ⟨0, _⟩ => rfl))

/-- The reference's result at an index. -/
theorem result (x12 : (⟨S2, .f32⟩ : BufTy).Contents (Elt Ideal)) (i : S16384x2.Idx) :
    val_main_v45 (F := Ideal) x0 x1 x2 x3 (up tu) (up ta) (up tc) (up W) (up b1) (up W2) (up b2) (up W3) x12 i
      = ((score tu ta tc W b1 W2 b2 W3 x0 x1 x2 x3 (i 0).val (i 1) : ℝ) : EReal) + x12 (Idealize.ShloMosaic.ix1 (i 1)) := by
  rw [val_main_v45_apply, val_main_v42_apply, val_main_v44_apply, val_main_v43_apply]
  unfold score
  have e : (∑ k : Fin 80, val_main_v41 (F := Ideal) x0 x1 x2 x3 (up tu) (up ta) (up tc) (up W) (up b1) (up W2) (up b2) (lidx_main_v42 i k) * up W3 (ridx_main_v42 i k))
      = ((∑ k : Fin 80, lay2 (fun j => proj tu ta tc W x0 x1 x2 x3 (i 0).val j.val + b1 (Idealize.ShloMosaic.ix1 j)) W2 (fun k => b2 (Idealize.ShloMosaic.ix1 k)) k
          * W3 (Idealize.ShloMosaic.ix2 k (i 1)) : ℝ) : EReal) := by
    rw [coe_sum]
    refine Finset.sum_congr rfl fun k _ => ?_
    rw [EReal.coe_mul, ← hidden2 x0 x1 x2 x3 tu ta tc W b1 W2 b2 h0 h1 h2 h3 (i 0) k]
    refine congr (congrArg HMul.hMul (congrArg _ ?_)) (congrArg (up W3) ?_)
    · exact funext fun a => match a with | ⟨0, _⟩ => rfl | ⟨1, _⟩ => rfl
    · exact funext fun a => match a with | ⟨0, _⟩ => rfl | ⟨1, _⟩ => rfl
  rw [e]
  exact congrArg (fun z : EReal => _ + z) (congrArg x12 (funext fun a => match a with | ⟨0, _⟩ => rfl))

end

/-- The reference's result at an index, of arguments equal to the given ones. -/
theorem result_of (y0 x0 : IVec S16384x2 32) (y1 x1 : IVec S16384x20x3 32) (y2 x2 : IVec S16384x1x3 32) (y3 x3 : IVec S16384x2 32)
    (y4 : FVec Ideal S12x88 .f32) (y5 : FVec Ideal S31x88 .f32) (y6 : FVec Ideal S20x88 .f32) (y7 : FVec Ideal S5896x200 .f32) (y8 : FVec Ideal S200 .f32)
    (y9 : FVec Ideal S200x80 .f32) (y10 : FVec Ideal S80 .f32) (y11 : FVec Ideal S80x2 .f32) (y12 x12 : FVec Ideal S2 .f32)
    (tu : S12x88.Idx → ℝ) (ta : S31x88.Idx → ℝ) (tc : S20x88.Idx → ℝ) (W : S5896x200.Idx → ℝ) (b1 : S200.Idx → ℝ)
    (W2 : S200x80.Idx → ℝ) (b2 : S80.Idx → ℝ) (W3 : S80x2.Idx → ℝ)
    (h0 : ∀ i, (x0 i).toNat < 2) (h1 : ∀ i, (x1 i).toNat < 3) (h2 : ∀ i, (x2 i).toNat < 3) (h3 : ∀ i, (x3 i).toNat < 10)
    (e0 : y0 = x0) (e1 : y1 = x1) (e2 : y2 = x2) (e3 : y3 = x3) (e4 : y4 = up tu) (e5 : y5 = up ta) (e6 : y6 = up tc) (e7 : y7 = up W)
    (e8 : y8 = up b1) (e9 : y9 = up W2) (e10 : y10 = up b2) (e11 : y11 = up W3) (e12 : y12 = x12) (i : S16384x2.Idx) :
    val_main_v45 (F := Ideal) y0 y1 y2 y3 y4 y5 y6 y7 y8 y9 y10 y11 y12 i
      = ((score tu ta tc W b1 W2 b2 W3 x0 x1 x2 x3 (i 0).val (i 1) : ℝ) : EReal) + x12 (Idealize.ShloMosaic.ix1 (i 1)) := by
  subst e0 e1 e2 e3 e4 e5 e6 e7 e8 e9 e10 e11 e12
  exact result _ _ _ _ tu ta tc W b1 W2 b2 W3 h0 h1 h2 h3 _ i

end Cert.ReferenceIdeal.Ctr

end
-- ==== Proof.lean ====
/- The certificate of the click-through-rate forward pass: the four programs' frames, and the equation of the kernel's
   result with the reference's over the extended reals. -/
module

public import proofs.«01_k».proof.Defs
public import proofs.«01_k».proof.Proof.Gen.Kernel.Frame
public import proofs.«01_k».proof.Proof.Gen.KernelIdeal.Value
public import proofs.«01_k».proof.Proof.Gen.Pre_in_range
public import proofs.«01_k».proof.Proof.Gen.ReferenceIdeal.Run
public import proofs.«01_k».proof.Proof.Gen.ReferenceIdeal.Read
public import proofs.«01_k».proof.Proof.Reference
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference ends, keeps its arguments and leaves no counter raised. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments in range the kernel and the reference compute the same extended reals. -/
theorem algebraic_KernelIdeal_ReferenceIdeal : algebraic_KernelIdeal_ReferenceIdeal_pre_in_range := by
  intro m ρ m' ρ' hpre hagree
  refine ⟨_, Cert.KernelIdeal.Value.run (F := Ideal) m ρ, (θ_run Cert.ReferenceIdeal.defs _ _).mono (fun r h c => ⟨(h c).1.trans ?_, (h c).2⟩)
    (Cert.ReferenceIdeal.Value.run (F := Ideal) m' ρ')⟩
  obtain ⟨⟨h0, h1, h2, h3⟩, ⟨tu, h4⟩, ⟨ta, h5⟩, ⟨tc, h6⟩, ⟨W, h7⟩, ⟨b1, h8⟩, ⟨W2, h9⟩, ⟨b2, h10⟩, ⟨W3, h11⟩⟩ :=
    Cert.KernelIdeal.Ctr.decode _ _ _ _ _ _ _ _ _ _ _ _ _ (hpre c)
  obtain ⟨g0, g1, g2, g3, g4, g5, g6, g7, g8, g9, g10, g11, g12⟩ := hagree c
  refine (Cert.ReferenceIdeal.Read.val_main_v45_eq (F := Ideal) m' c).trans (funext fun i => ?_)
  exact (Cert.ReferenceIdeal.Ctr.result_of _ _ _ _ _ _ _ _ _ _ _ _ _ _ _ _ _ _ tu ta tc W b1 W2 b2 W3 h0 h1 h2 h3 g0 g1 g2 g3
      (g4.trans h4) (g5.trans h5) (g6.trans h6) (g7.trans h7) (g8.trans h8) (g9.trans h9) (g10.trans h10) (g11.trans h11) g12 i).trans
    (Cert.KernelIdeal.Ctr.G_closed m c tu ta tc W b1 W2 b2 W3 h0 h1 h2 h3 h4 h5 h6 h7 h8 h9 h10 h11 i).symm

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, (trivial : preserves_Kernel_KernelIdeal), algebraic_KernelIdeal_ReferenceIdeal⟩

end Cert.Proof

end
